-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S1 : Shape := ⟨1, ![1]⟩
abbrev S4096x2048 : Shape := ⟨2, ![4096, 2048]⟩
abbrev S12 : Shape := ⟨1, ![12]⟩
abbrev S_ : Shape := ⟨0, ![]⟩
abbrev S2048x1024 : Shape := ⟨2, ![2048, 1024]⟩
abbrev S512x2048 : Shape := ⟨2, ![512, 2048]⟩
abbrev S256x1024 : Shape := ⟨2, ![256, 1024]⟩
abbrev S256x2048 : Shape := ⟨2, ![256, 2048]⟩

abbrev nBuf : Space → Nat
  | .hbm => 5
  | .vmem => 9
  | .smem => 2
  | _ => 0

abbrev bufTy : (tb : Table) → Fin (tcTables nBuf tb) → BufTy
  | .hbm, ⟨0, _⟩ => ⟨S4096x1024, .fp8e4m3⟩
  | .hbm, ⟨1, _⟩ => ⟨S1024x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x1024, .fp8e4m3⟩
  | .local _ .vmem, ⟨1, _⟩ => ⟨S1024x2048, .fp8e5m2⟩
  | .local _ .vmem, ⟨2, _⟩ => ⟨S4096x2048, .f32⟩
  | .local _ .vmem, ⟨3, _⟩ => ⟨S4096x1024, .fp8e4m3⟩
  | .local _ .vmem, ⟨4, _⟩ => ⟨S4096x1024, .fp8e4m3⟩
  | .local _ .vmem, ⟨5, _⟩ => ⟨S4096x1024, .fp8e4m3⟩
  | .local _ .vmem, ⟨6, _⟩ => ⟨S1024x2048, .fp8e5m2⟩
  | .local _ .vmem, ⟨7, _⟩ => ⟨S1024x2048, .fp8e5m2⟩
  | .local _ .vmem, ⟨8, _⟩ => ⟨S1024x2048, .fp8e5m2⟩
  | .local _ .smem, ⟨0, _⟩ => ⟨S1, .f32⟩
  | .local _ .smem, ⟨1, _⟩ => ⟨S1, .f32⟩
  | _, _ => ⟨S4096x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 1 → Bool
  | ⟨0, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 1 29 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_21 : BitVec 32 := 1#32
  let v30 : BitVec 32 := Scalar.muli v24 c1_i32_21
  let v31 : BitVec 32 := Scalar.addi c0_i32_22 v30
  v31.toNat
def k0_dev4 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_29 : BitVec 32 := 1#32
  let v38 : BitVec 32 := Scalar.muli v24 c1_i32_29
  let v39 : BitVec 32 := Scalar.addi c0_i32_30 v38
  v39.toNat
def k0_dev5 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_36 : BitVec 32 := 1#32
  let v46 : BitVec 32 := Scalar.muli v24 c1_i32_36
  let v47 : BitVec 32 := Scalar.addi c0_i32_37 v46
  v47.toNat
def k0_dev6 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_43 : BitVec 32 := 1#32
  let v54 : BitVec 32 := Scalar.muli v24 c1_i32_43
  let v55 : BitVec 32 := Scalar.addi c0_i32_44 v54
  v55.toNat
def k0_dev7 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_50 : BitVec 32 := 1#32
  let v62 : BitVec 32 := Scalar.muli v13 c1_i32_50
  let v63 : BitVec 32 := Scalar.addi c0_i32_51 v62
  v63.toNat
def k0_dev8 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_57 : BitVec 32 := 1#32
  let v70 : BitVec 32 := Scalar.muli v13 c1_i32_57
  let v71 : BitVec 32 := Scalar.addi c0_i32_58 v70
  v71.toNat
def k0_dev9 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_64 : BitVec 32 := 1#32
  let v78 : BitVec 32 := Scalar.muli v13 c1_i32_64
  let v79 : BitVec 32 := Scalar.addi c0_i32_65 v78
  v79.toNat
def k0_dev10 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_71 : BitVec 32 := 1#32
  let v86 : BitVec 32 := Scalar.muli v13 c1_i32_71
  let v87 : BitVec 32 := Scalar.addi c0_i32_72 v86
  v87.toNat
def k0_dev11 (d0 : Dev nD) : Nat :=
  let c0_i32_190 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_189 : BitVec 32 := 1#32
  let v202 : BitVec 32 := Scalar.muli v24 c1_i32_189
  let v203 : BitVec 32 := Scalar.addi c0_i32_190 v202
  v203.toNat
def k0_dev12 (d0 : Dev nD) : Nat :=
  let c0_i32_197 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_196 : BitVec 32 := 1#32
  let v210 : BitVec 32 := Scalar.muli v24 c1_i32_196
  let v211 : BitVec 32 := Scalar.addi c0_i32_197 v210
  v211.toNat
def k0_dev13 (d0 : Dev nD) : Nat :=
  let c0_i32_220 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_219 : BitVec 32 := 1#32
  let v230 : BitVec 32 := Scalar.muli v13 c1_i32_219
  let v231 : BitVec 32 := Scalar.addi c0_i32_220 v230
  v231.toNat
def k0_dev14 (d0 : Dev nD) : Nat :=
  let c0_i32_227 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_226 : BitVec 32 := 1#32
  let v238 : BitVec 32 := Scalar.muli v13 c1_i32_226
  let v239 : BitVec 32 := Scalar.addi c0_i32_227 v238
  v239.toNat
abbrev stage0_0 : Fin 1 → Memref sig .tc .vmem S4096x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Prog.lean ====
/-
# The kernel's body as a short program

The printed body is a straight line of some three hundred operations: a handshake with the two
neighbours on the ring, twelve remote copies with their waits, and three passes over the sixteen
row blocks of the output for each operand pair. Here the same program is written with the copies
as a family over `Fin 12` and each pass as a chain over `Fin 16`, and the two are proved equal.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Ring

open Cert.KernelIdeal Cert.KernelIdeal.Gen
open Idealize.ShloMosaic Idealize.ShloMosaic.TcCoe
open Idealize.SL.Sem

variable {F : FTy → Type} [FloatOps F]

/-! ## The buffers -/

/-- A memref of the left operand's shape. -/
abbrev MemX := Memref sig .tc .vmem S4096x1024 .fp8e4m3
/-- A memref of the right operand's shape. -/
abbrev MemW := Memref sig .tc .vmem S1024x2048 .fp8e5m2

/-- The device's own shard of the left operand. -/
abbrev xM : MemX := Memref.whole cc0_stg0_0
/-- The device's own shard of the right operand. -/
abbrev wM : MemW := Memref.whole cc0_stg1_0
/-- The left operand's scale. -/
abbrev sxM : Memref sig .tc .smem S1 .f32 := Memref.whole cc0_stg2_0
/-- The right operand's scale. -/
abbrev swM : Memref sig .tc .smem S1 .f32 := Memref.whole cc0_stg3_0
/-- The output. -/
abbrev oM : Memref sig .tc .vmem S4096x2048 .f32 := Memref.whole cc0_stg4_0
/-- Where the left neighbour's left operand lands. -/
abbrev xL : MemX := Memref.whole cc0_scratch0
/-- Where the right neighbour's left operand lands. -/
abbrev xR : MemX := Memref.whole cc0_scratch1
/-- Where the opposite device's left operand lands. -/
abbrev xD : MemX := Memref.whole cc0_scratch2
/-- Where the left neighbour's right operand lands. -/
abbrev wL : MemW := Memref.whole cc0_scratch3
/-- Where the right neighbour's right operand lands. -/
abbrev wR : MemW := Memref.whole cc0_scratch4
/-- Where the opposite device's right operand lands. -/
abbrev wD : MemW := Memref.whole cc0_scratch5

/-! ## Halves of the operands -/

/-- The rows of half `h` of a left operand. -/
abbrev rX (h : Fin 2) : Rect S4096x1024 :=
  Rect.unit (s := S4096x1024) ![2048 * h.val, 0] S2048x1024.size (by revert h; decide)
/-- The rows of half `h` of a right operand. -/
abbrev rW (h : Fin 2) : Rect S1024x2048 :=
  Rect.unit (s := S1024x2048) ![512 * h.val, 0] S512x2048.size (by revert h; decide)
/-- Half `h` of a left operand. -/
abbrev halfX (m : MemX) (h : Fin 2) : Memref sig .tc .vmem S2048x1024 .fp8e4m3 := m.slice (rX h) (fun _ => rfl)
/-- Half `h` of a right operand. -/
abbrev halfW (m : MemW) (h : Fin 2) : Memref sig .tc .vmem S512x2048 .fp8e5m2 := m.slice (rW h) (fun _ => rfl)

/-- Half a left operand is whole words. -/
theorem exactX {m : MemX} (hm : m.IsWhole) : ∀ h : Fin 2, (halfX m h).view.WordExact
  | 0 => hm.wordExact_slice rfl _ wordsfp8e4m3_S4096x1024_S2048x1024_0_0
  | 1 => hm.wordExact_slice rfl _ wordsfp8e4m3_S4096x1024_S2048x1024_2048_0
/-- Half a right operand is whole words. -/
theorem exactW {m : MemW} (hm : m.IsWhole) : ∀ h : Fin 2, (halfW m h).view.WordExact
  | 0 => hm.wordExact_slice rfl _ wordsfp8e5m2_S1024x2048_S512x2048_0_0
  | 1 => hm.wordExact_slice rfl _ wordsfp8e5m2_S1024x2048_S512x2048_512_0

/-! ## The copies -/

/-- What one remote copy moves: the sender's source and the receiver's destination. -/
structure Cp where
  /-- the shape moved -/
  s : Shape
  /-- the element type moved -/
  e : EltTy
  /-- the source, on the sender -/
  src : Memref sig .tc .vmem s e
  /-- the destination, on the receiver -/
  dst : Memref sig .tc .vmem s e
  /-- the source is whole words -/
  hsrc : src.view.WordExact
  /-- the destination is whole words -/
  hdst : dst.view.WordExact

/-- The copy of half `h` of one left operand buffer into another. -/
abbrev copyX (a b : MemX) (ha : a.IsWhole) (hb : b.IsWhole) (h : Fin 2) : Cp :=
  ⟨_, _, halfX a h, halfX b h, exactX ha h, exactX hb h⟩
/-- The copy of half `h` of one right operand buffer into another. -/
abbrev copyW (a b : MemW) (ha : a.IsWhole) (hb : b.IsWhole) (h : Fin 2) : Cp :=
  ⟨_, _, halfW a h, halfW b h, exactW ha h, exactW hb h⟩

/-- The twelve copies, in the kernel's numbering. -/
def cp : Fin 12 → Cp := fun
  | 0 => copyX xM xL (Memref.isWhole_whole _) (Memref.isWhole_whole _) 0
  | 1 => copyX xM xL (Memref.isWhole_whole _) (Memref.isWhole_whole _) 1
  | 2 => copyW wM wL (Memref.isWhole_whole _) (Memref.isWhole_whole _) 0
  | 3 => copyW wM wL (Memref.isWhole_whole _) (Memref.isWhole_whole _) 1
  | 4 => copyX xM xR (Memref.isWhole_whole _) (Memref.isWhole_whole _) 0
  | 5 => copyX xM xR (Memref.isWhole_whole _) (Memref.isWhole_whole _) 1
  | 6 => copyW wM wR (Memref.isWhole_whole _) (Memref.isWhole_whole _) 0
  | 7 => copyW wM wR (Memref.isWhole_whole _) (Memref.isWhole_whole _) 1
  | 8 => copyX xL xD (Memref.isWhole_whole _) (Memref.isWhole_whole _) 0
  | 9 => copyW wL wD (Memref.isWhole_whole _) (Memref.isWhole_whole _) 0
  | 10 => copyX xR xD (Memref.isWhole_whole _) (Memref.isWhole_whole _) 1
  | 11 => copyW wR wD (Memref.isWhole_whole _) (Memref.isWhole_whole _) 1

/-- A number below twelve names a semaphore of the copies. -/
theorem inb12 (i : Fin 12) : ∀ a, (![i.val] : Fin 1 → Nat) a + S1.size a ≤ S12.size a := by revert i; decide

/-- The semaphore a copy's sender waits on. -/
def sendS (i : Fin 12) : DmaSem sig :=
  ((cc0_scratch6.slice (Rect.unit (s := S12) ![i.val] S1.size (inb12 i))).squeeze S_ squeezes_S1_S_).sem
/-- The semaphore a copy's receiver waits on. -/
def recvS (i : Fin 12) : DmaSem sig :=
  ((cc0_scratch7.slice (Rect.unit (s := S12) ![i.val] S1.size (inb12 i))).squeeze S_ squeezes_S1_S_).sem
/-- The neighbours' barrier semaphore. -/
def barS : Sem sig := (SemArray.scalar (sig.barrier 0 rfl) : Sems sig S_).sem

/-- The kernel's programs. -/
abbrev KProg (F : FTy → Type) [FloatOps F] := Prog (TpuEff nD τ sig (Elt F) Λ₀ .tc) PUnit

/-- Start copy `i` to device `q`. -/
def sendP (i : Fin 12) (q : Dev nD) (k : KProg F) : KProg F :=
  .op (.enqueueDma (cp i).src (.remote (Dev.tc q) (cp i).dst (.dma (sendS i))) (.dma (recvS i)) (cp i).hsrc (cp i).hdst
    ⟨⟨rfl, Or.inl rfl⟩, trivial⟩) fun _ => k
/-- Wait for the arrival of copy `i`. -/
def recvP (i : Fin 12) (k : KProg F) : KProg F :=
  .op (.waitDma2 (recvS i) (cp i).src (cp i).dst (cp i).hsrc (cp i).hdst) fun _ => k
/-- Wait until copy `i` has been sent. -/
def sentP (i : Fin 12) (k : KProg F) : KProg F :=
  .op (.waitDma2 (sendS i) (cp i).dst (cp i).src (cp i).hdst (cp i).hsrc) fun _ => k

/-! ## The passes over the output -/

/-- Row block `b` of a left operand. -/
abbrev bX (b : Fin 16) : Rect S4096x1024 :=
  Rect.unit (s := S4096x1024) ![256 * b.val, 0] S256x1024.size (by revert b; decide)
/-- Row block `b` of the output. -/
abbrev bO (b : Fin 16) : Rect S4096x2048 :=
  Rect.unit (s := S4096x2048) ![256 * b.val, 0] S256x2048.size (by revert b; decide)
/-- The whole of a right operand. -/
abbrev aW : Rect S1024x2048 :=
  Rect.unit (s := S1024x2048) ![0, 0] S1024x2048.size inb_S1024x2048_S1024x2048_0_0
/-- The one element of a scale. -/
abbrev aS : Rect S1 := Rect.unit (s := S1) ![0] S1.size inb_S1_S1_0

/-- The product of a row block with a right operand. -/
def prod (x : FVec F S256x1024 .fp8e4m3) (w : FVec F S1024x2048 .fp8e5m2) : FVec F S256x2048 .f32 :=
  matmul dot_S256x1024_S1024x2048_S256x2048_1_0_0_1_n_n none x w (constant S256x2048 .f32 0x00000000#32)

/-- A row block of the first pass: the product. -/
def val0 (x : Vec F S256x1024 .fp8e4m3) (w : Vec F S1024x2048 .fp8e5m2) : FVec F S256x2048 .f32 :=
  prod (shapeCast S256x1024 x shapeCasts_S256x1024_S256x1024) (shapeCast S1024x2048 w shapeCasts_S1024x2048_S1024x2048)
/-- A row block of a middle pass: the product added to what is there. -/
def val1 (x : Vec F S256x1024 .fp8e4m3) (w : Vec F S1024x2048 .fp8e5m2) (o : Vec F S256x2048 .f32) : FVec F S256x2048 .f32 :=
  addf (shapeCast S256x2048 o shapeCasts_S256x2048_S256x2048) (prod x w)
/-- A row block of the last pass: the product added to what is there, times both scales. -/
def val2 (x : Vec F S256x1024 .fp8e4m3) (w : Vec F S1024x2048 .fp8e5m2) (sx sw : Elt F .f32) (o : Vec F S256x2048 .f32) :
    FVec F S256x2048 .f32 :=
  mulf (val1 x w o) (broadcast S256x2048 (Scalar.mulf sx sw))

/-- Load row block `b` of a left operand. -/
abbrev loadX (x : MemX) (b : Fin 16) (k : Vec F S256x1024 .fp8e4m3 → KProg F) : KProg F :=
  .op (.load x (bX b).toLoadRect (View.loadsAt_vmem h_S256x1024)) k
/-- Load a right operand. -/
abbrev loadW (w : MemW) (k : Vec F S1024x2048 .fp8e5m2 → KProg F) : KProg F :=
  .op (.load w aW.toLoadRect (View.loadsAt_vmem h_S1024x2048)) k
/-- Load row block `b` of the output. -/
abbrev loadO (b : Fin 16) (k : Vec F S256x2048 .f32 → KProg F) : KProg F :=
  .op (.load oM (bO b).toLoadRect (View.loadsAt_vmem h_S256x2048)) k
/-- Store row block `b` of the output. -/
abbrev storeO (b : Fin 16) (v : Vec F S256x2048 .f32) (k : KProg F) : KProg F :=
  .op (.store oM (bO b) v Finset.univ (View.stores_vmem_bits_univ h_S256x2048 rfl) (.inl rfl)) fun _ => k

/-- Row block `b` of the first pass. -/
def blk0 (x : MemX) (w : MemW) (b : Fin 16) (k : KProg F) : KProg F :=
  loadX x b fun vx => loadW w fun vw => loadO b fun _ => storeO b (val0 vx vw) k
/-- Row block `b` of a middle pass. -/
def blk1 (x : MemX) (w : MemW) (b : Fin 16) (k : KProg F) : KProg F :=
  loadX x b fun vx => loadW w fun vw => loadO b fun o => loadO b fun _ => storeO b (val1 vx vw o) k
/-- Row block `b` of the last pass. -/
def blk2 (x : MemX) (w : MemW) (b : Fin 16) (k : KProg F) : KProg F :=
  loadX x b fun vx => loadW w fun vw =>
    .op (.load sxM aS.toLoadRect (View.loadsAt_rect (View.loads_smem_one rfl numel1_S1))) fun sx =>
    .op (.load swM aS.toLoadRect (View.loadsAt_rect (View.loads_smem_one rfl numel1_S1))) fun sw =>
    loadO b fun o => loadO b fun _ =>
    storeO b (val2 vx vw (sx (Shape.Idx.first (numel1_S1.symm ▸ Nat.one_pos))) (sw (Shape.Idx.first (numel1_S1.symm ▸ Nat.one_pos))) o) k

/-- The first `n` row blocks of a pass, in order, then `k`. -/
def chain (blk : Fin 16 → KProg F → KProg F) : (n : ℕ) → n ≤ 16 → KProg F → KProg F
  | 0, _, k => k
  | n + 1, h, k => chain blk n (Nat.le_of_succ_le h) (blk ⟨n, h⟩ k)
/-- A whole pass, then `k`. -/
abbrev pass (blk : Fin 16 → KProg F → KProg F) (k : KProg F) : KProg F := chain blk 16 le_rfl k

/-! ## The ring -/

/-- The right neighbour. -/
def nxt (c : Dev nD) : Dev nD := ⟨(c.val + 1) % 4, Nat.mod_lt _ (by decide)⟩
/-- The left neighbour. -/
def prv (c : Dev nD) : Dev nD := ⟨(c.val + 3) % 4, Nat.mod_lt _ (by decide)⟩

/-- Whether a copy goes to the right. -/
def right : Fin 12 → Bool := fun
  | 0 | 1 | 2 | 3 | 8 | 9 => true
  | 4 | 5 | 6 | 7 | 10 | 11 => false

/-- The device copy `i` of device `c` goes to. -/
def peer (i : Fin 12) (c : Dev nD) : Dev nD := if right i then nxt c else prv c
/-- The device whose copy `i` arrives at device `c`. -/
def origin (i : Fin 12) (c : Dev nD) : Dev nD := if right i then prv c else nxt c

/-- The destination of each copy as the program computes it. -/
def rawDev (d : Dev nD) : Fin 12 → Dev nD := fun
  | 0 => ⟨k0_dev3 d, k0_dev3_lt d⟩ | 1 => ⟨k0_dev4 d, k0_dev4_lt d⟩ | 2 => ⟨k0_dev5 d, k0_dev5_lt d⟩
  | 3 => ⟨k0_dev6 d, k0_dev6_lt d⟩ | 4 => ⟨k0_dev7 d, k0_dev7_lt d⟩ | 5 => ⟨k0_dev8 d, k0_dev8_lt d⟩
  | 6 => ⟨k0_dev9 d, k0_dev9_lt d⟩ | 7 => ⟨k0_dev10 d, k0_dev10_lt d⟩ | 8 => ⟨k0_dev11 d, k0_dev11_lt d⟩
  | 9 => ⟨k0_dev12 d, k0_dev12_lt d⟩ | 10 => ⟨k0_dev13 d, k0_dev13_lt d⟩ | 11 => ⟨k0_dev14 d, k0_dev14_lt d⟩

/-- The computed destinations are the peers. -/
theorem rawDev_eq (d : Dev nD) : rawDev d = fun i => peer i d := by
  have h : ∀ (d : Dev nD) (i : Fin 12), rawDev d i = peer i d := by decide +kernel
  exact funext (h d)
/-- The first signal goes to the left neighbour. -/
theorem rawDev1_eq (d : Dev nD) : (⟨k0_dev1 d, k0_dev1_lt d⟩ : Dev nD) = prv d := by revert d; decide +kernel
/-- The second signal goes to the right neighbour. -/
theorem rawDev2_eq (d : Dev nD) : (⟨k0_dev2 d, k0_dev2_lt d⟩ : Dev nD) = nxt d := by revert d; decide +kernel

/-! ## The body -/

/-- The body after its handshake, its copies going to the devices `dv`. -/
def rest (dv : Fin 12 → Dev nD) : KProg F :=
  sendP 0 (dv 0) <| sendP 1 (dv 1) <| sendP 2 (dv 2) <| sendP 3 (dv 3) <|
  sendP 4 (dv 4) <| sendP 5 (dv 5) <| sendP 6 (dv 6) <| sendP 7 (dv 7) <|
  pass (blk0 xM wM) <|
  recvP 0 <| recvP 2 <| sendP 8 (dv 8) <| sendP 9 (dv 9) <|
  recvP 5 <| recvP 7 <| sendP 10 (dv 10) <| sendP 11 (dv 11) <|
  recvP 1 <| recvP 3 <| recvP 4 <| recvP 6 <|
  sentP 0 <| sentP 1 <| sentP 2 <| sentP 3 <| sentP 4 <| sentP 5 <| sentP 6 <| sentP 7 <|
  pass (blk1 xL wL) <| pass (blk1 xR wR) <|
  sentP 8 <| recvP 8 <| sentP 9 <| recvP 9 <| sentP 10 <| recvP 10 <| sentP 11 <| recvP 11 <|
  pass (blk2 xD wD) <| .ret ⟨⟩

/-- The body of the device with left neighbour `l`, right neighbour `r` and copies going to `dv`. -/
def bodyAt (l r : Dev nD) (dv : Fin 12 → Dev nD) : KProg F :=
  .op (.semSignal (Dev.tc l) barS 1) fun _ =>
  .op (.semSignal (Dev.tc r) barS 1) fun _ =>
  .op (.semWait barS 2) fun _ => rest dv

/-- The printed body, called as the region calls it. -/
abbrev printedBody : KProg F :=
  cc0_body xM (Memref.isWhole_whole _) wM (Memref.isWhole_whole _) sxM (Memref.isWhole_whole _) swM (Memref.isWhole_whole _)
    oM (Memref.isWhole_whole _) xL (Memref.isWhole_whole _) xR (Memref.isWhole_whole _) xD (Memref.isWhole_whole _)
    wL (Memref.isWhole_whole _) wR (Memref.isWhole_whole _) wD (Memref.isWhole_whole _) cc0_scratch6 cc0_scratch7

/-- The printed body is the short program, its destinations as printed. -/
theorem body_raw : printedBody (F := F) = .op .deviceId fun d =>
    bodyAt ⟨k0_dev1 d, k0_dev1_lt d⟩ ⟨k0_dev2 d, k0_dev2_lt d⟩ (rawDev d) := by
  rewrite [printedBody, cc0_body_eq_skeleton]
  chain_rfl

/-- The printed body is the short program: to the left neighbour and the right one, and each copy to its peer. -/
theorem body_eq : printedBody (F := F) = .op .deviceId fun d => bodyAt (prv d) (nxt d) (fun i => peer i d) := by
  rw [body_raw]; simp only [rawDev_eq, rawDev1_eq, rawDev2_eq]

end Cert.Ring

end
-- ==== Proof.Acc.lean ====
/-
# The passes over the output, block by block

A buffer is spoken of through `owns`: the device holds a share of it and it reads as a given array.
A load gives the array's part at the rectangle, a store replaces that part. From the two: one row
block of each of the three kinds of pass, and then a whole pass, whose sixteen stores write one
array, row block by row block.
-/
module

public import proofs.«01_k».proof.Proof.Prog
public import Idealize.ShloMosaic.Lib.Memref
public import Idealize.ShloMosaic.Lib.MemrefSat

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's rounds and the kernel's own, the latter with two duties a cell at most. -/
abbrev UU : Type := UR sig nD τ × URounds (GSem nD τ sig) Bool

local notation "𝕄" => MT nD τ sig Unit (Elt F) ℕ UU ℕ

/-- No recursion: one variant. -/
abbrev 𝒱₀ : Variants := Variants.none

/-- A program's weakest precondition on device `c`. -/
abbrev WP (c : Dev nD) (p : KProg F) (Q : PUnit.{1} → sProp 𝕄) : sProp 𝕄 :=
  wp frame (wpE (defs₀ (F := F)) 𝒱₀ (c : Thread nD τ) none) Set.univ p Q

/-- Device `c` holds share `q` of a memref that reads as `X`. -/
abbrev has (c : Dev nD) {sp : Space} {s : Shape} {e : EltTy} (m : Memref sig .tc sp s e) (q : PosShare TreeShare)
    (X : s.Idx → Elt F e) : sProp 𝕄 := owns (c : Thread nD τ) m q X

/-! ## One load, one store -/

section Access

variable (c : Dev nD)

/-- Loading a rectangle of an owned memref gives its array's part there. -/
theorem load_at {cs : CoreSpace} {s : Shape} {e : EltTy} {m : Memref sig .tc cs s e} {r : Rect s} {hl : m.view.LoadsAt r.toLoadRect}
    {k : (r.shape.Idx → Elt F e) → KProg F} {q : PosShare TreeShare} (X : s.Idx → Elt F e) {Q : PUnit.{1} → sProp 𝕄} :
    (has c m q X : sProp 𝕄) ⊢ iprop((has c m q X -∗ WP c (k fun j => X (r.emb j)) Q) -∗ WP c (.op (.load m r.toLoadRect hl) k) Q) := by
  unfold has owns
  iintro ⟨%f, %hf, H⟩ Hk
  iapply (wp_load 𝒱₀ (c : Thread nD τ) none Set.univ (m := m) (q := q) (f := f) (View.setOn_subset_set _ _)) $$ H
  iintro H
  have e : m.view.readAt (Elt F) r.toLoadRect f = fun j => X (r.emb j) := by rw [← hf]; rfl
  rw [e]
  iapply Hk
  iexists f; isplitr; · ipureintro; exact hf
  iexact H

/-- Storing over a rectangle of an owned memref replaces its array's part there. -/
theorem store_at {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {k : PUnit → KProg F} (X : s.Idx → Elt F e) {Q : PUnit.{1} → sProp 𝕄} :
    (has c m fullShare X : sProp 𝕄)
      ⊢ iprop((has c m fullShare (r.overlay X w) -∗ WP c (k ⟨⟩) Q) -∗ WP c (.op (.store m r w Finset.univ hx hm) k) Q) := by
  unfold has owns
  iintro ⟨%f, %hf, H⟩ Hk
  iapply (wp_store 𝒱₀ (c : Thread nD τ) none Set.univ (m := m) (r := r) (f := f) (Mk := Finset.univ)
    (S := m.view.set) (m.view.set_slice_subset r)) $$ H
  iintro H
  iapply Hk
  iexists ((m.access r).write (Elt F) f w Finset.univ)
  isplitr
  · ipureintro
    funext j
    by_cases hj : j ∈ r.set
    · obtain ⟨i, rfl⟩ := r.exists_idx_of_mem hj
      exact (View.read_slice_write_emb (v := m.view) r f w (Finset.mem_univ i)).trans (r.overlay_emb X w i).symm
    · rw [Rect.overlay_of_not_mem _ _ _ hj, ← hf]
      exact View.read_slice_write_of_not_mem (v := m.view) r f w Finset.univ (by rw [Rect.map_emb_univ]; exact hj)
  iexact H

end Access

/-! ## Arrays assembled from row blocks -/

/-- An array of row blocks: `G b` at the rows of block `b`. -/
def rowBlocks {α : Type} (G : Fin 16 → S256x2048.Idx → α) (j : S4096x2048.Idx) : α :=
  G ⟨(j 0).val / 256, Nat.div_lt_of_lt_mul (j 0).isLt⟩
    fun a => match a with | 0 => ⟨(j 0).val % 256, Nat.mod_lt _ (by decide)⟩ | 1 => ⟨(j 1).val, (j 1).isLt⟩

/-- The array of row blocks at an index of block `b`. -/
theorem rowBlocks_emb {α : Type} (G : Fin 16 → S256x2048.Idx → α) (b : Fin 16) (i : S256x2048.Idx) :
    rowBlocks G ((bO b).emb i) = G b i := by
  have h0 : ((bO b).emb i 0 : ℕ) = 256 * b.val + (i 0).val := by rw [Rect.emb_apply]; simp
  have h1 : ((bO b).emb i 1 : ℕ) = (i 1).val := by rw [Rect.emb_apply]; simp
  have hi : (i 0).val < 256 := (i 0).isLt
  unfold rowBlocks
  have hb : (⟨((bO b).emb i 0 : ℕ) / 256, Nat.div_lt_of_lt_mul ((bO b).emb i 0).isLt⟩ : Fin 16) = b :=
    Fin.ext (by simp only [h0]; omega)
  rw [hb]
  congr 1
  funext a
  refine Fin.ext ?_
  match a with
  | 0 => simp only [h0]; omega
  | 1 => exact h1

/-- The rows below block `n` from `New`, the others from `Old`. -/
def mix {α : Type} (n : ℕ) (New Old : S4096x2048.Idx → α) (j : S4096x2048.Idx) : α :=
  if (j 0).val < 256 * n then New j else Old j

/-- With no block done, the array is as it was. -/
theorem mix_zero {α : Type} (New Old : S4096x2048.Idx → α) : mix 0 New Old = Old :=
  funext fun j => if_neg (by omega)
/-- With every block done, the array is the new one. -/
theorem mix_all {α : Type} (New Old : S4096x2048.Idx → α) : mix 16 New Old = New :=
  funext fun j => if_pos (j 0).isLt

/-- Before its turn a row block still holds the old rows. -/
theorem mix_block {α : Type} (b : Fin 16) (New Old : S4096x2048.Idx → α) (i : (bO b).shape.Idx) :
    mix b.val New Old ((bO b).emb i) = Old ((bO b).emb i) := by
  refine if_neg ?_
  rw [Rect.emb_apply]; simp

/-- Replacing row block `b` by the new rows moves the boundary on by one block. -/
theorem mix_step {α : Type} (b : Fin 16) (New Old : S4096x2048.Idx → α) (v : (bO b).shape.Idx → α)
    (hv : ∀ i, v i = New ((bO b).emb i)) : (bO b).overlay (mix b.val New Old) v = mix (b.val + 1) New Old := by
  funext j
  by_cases hj : j ∈ (bO b).set
  · obtain ⟨i, rfl⟩ := (bO b).exists_idx_of_mem hj
    refine ((bO b).overlay_emb _ v i).trans ((hv i).trans (if_pos ?_).symm)
    have hi : (i 0).val < 256 := (i 0).isLt
    have h0 : ((bO b).emb i 0 : ℕ) = 256 * b.val + (i 0).val := by rw [Rect.emb_apply]; simp
    have h0' : ((bO b).idx i 0 : ℕ) = 256 * b.val + (i 0).val := h0
    rw [h0']; omega
  · rw [Rect.overlay_of_not_mem _ _ _ hj]
    have hn : ¬ (256 * b.val ≤ (j 0).val ∧ (j 0).val < 256 * b.val + 256) := fun h => hj (by
      rw [Rect.mem_set_unit]
      intro a
      match a with
      | 0 => exact h
      | 1 => exact ⟨Nat.zero_le _, by have := (j 1).isLt; simpa using this⟩)
    unfold mix
    by_cases h : (j 0).val < 256 * b.val
    · rw [if_pos h, if_pos (by omega)]
    · rw [if_neg h, if_neg (by omega)]

/-! ## The three kinds of row block, and a whole pass -/

/-- A left operand's array. -/
abbrev ArrX (F : FTy → Type) [FloatOps F] := S4096x1024.Idx → Elt F .fp8e4m3
/-- A right operand's array. -/
abbrev ArrW (F : FTy → Type) [FloatOps F] := S1024x2048.Idx → Elt F .fp8e5m2
/-- The output's array. -/
abbrev ArrO (F : FTy → Type) [FloatOps F] := S4096x2048.Idx → Elt F .f32
/-- A scale's array. -/
abbrev ArrS (F : FTy → Type) [FloatOps F] := S1.Idx → Elt F .f32

/-- The one index of a scale, as a load names it. -/
abbrev i1 : aS.shape.Idx := Shape.Idx.first (numel1_S1.symm ▸ Nat.one_pos)

/-- What the first pass leaves: the product of the operands. -/
def new0 (X : ArrX F) (W : ArrW F) : ArrO F :=
  rowBlocks fun b => val0 (fun i => X ((bX b).emb i)) (fun i => W (aW.emb i))
/-- What a middle pass leaves: the product of the operands added to what was there. -/
def new1 (X : ArrX F) (W : ArrW F) (O : ArrO F) : ArrO F :=
  rowBlocks fun b => val1 (fun i => X ((bX b).emb i)) (fun i => W (aW.emb i)) (fun i => O ((bO b).emb i))
/-- What the last pass leaves: the product of the operands added to what was there, times the scales. -/
def new2 (X : ArrX F) (W : ArrW F) (sx sw : ArrS F) (O : ArrO F) : ArrO F :=
  rowBlocks fun b => val2 (fun i => X ((bX b).emb i)) (fun i => W (aW.emb i)) (sx (aS.emb i1)) (sw (aS.emb i1))
    (fun i => O ((bO b).emb i))

/-- What the first pass leaves in a row block. -/
theorem new0_emb (X : ArrX F) (W : ArrW F) (b : Fin 16) (i : S256x2048.Idx) :
    (val0 (fun j => X ((bX b).emb j)) fun j => W (aW.emb j)) i = new0 X W ((bO b).emb i) := by
  unfold new0; rw [rowBlocks_emb]
/-- What a middle pass leaves in a row block. -/
theorem new1_emb (X : ArrX F) (W : ArrW F) (O : ArrO F) (b : Fin 16) (i : S256x2048.Idx) :
    (val1 (fun j => X ((bX b).emb j)) (fun j => W (aW.emb j)) fun j => O ((bO b).emb j)) i = new1 X W O ((bO b).emb i) := by
  unfold new1; rw [rowBlocks_emb]
/-- What the last pass leaves in a row block. -/
theorem new2_emb (X : ArrX F) (W : ArrW F) (sx sw : ArrS F) (O : ArrO F) (b : Fin 16) (i : S256x2048.Idx) :
    (val2 (fun j => X ((bX b).emb j)) (fun j => W (aW.emb j)) (sx (aS.emb i1)) (sw (aS.emb i1)) fun j => O ((bO b).emb j)) i = new2 X W sx sw O ((bO b).emb i) := by
  unfold new2; rw [rowBlocks_emb]

section Pass

variable (c : Dev nD)

/-- A chain of blocks each of which carries an assertion from one index to the next. -/
theorem chain_wp (Q : PUnit.{1} → sProp 𝕄) (blk : Fin 16 → KProg F → KProg F) (I : ℕ → sProp 𝕄)
    (h : ∀ (b : Fin 16) (k : KProg F), I b.val ⊢ iprop((I (b.val + 1) -∗ WP c k Q) -∗ WP c (blk b k) Q)) :
    ∀ (n : ℕ) (hn : n ≤ 16) (k : KProg F), I 0 ⊢ iprop((I n -∗ WP c k Q) -∗ WP c (chain blk n hn k) Q)
  | 0, _, k => by
    iintro H Hk
    iapply Hk; iexact H
  | n + 1, hn, k => by
    iintro H Hk
    iapply (chain_wp Q blk I h n (Nat.le_of_succ_le hn) (blk ⟨n, hn⟩ k)) $$ H
    iintro H
    iapply (h ⟨n, hn⟩ k) $$ H
    iexact Hk

/-- After a block's store the output holds the new array one block further. -/
theorem stored (b : Fin 16) (New Old : ArrO F) (v : S256x2048.Idx → Elt F .f32) (hv : ∀ i, v i = New ((bO b).emb i)) :
    (has c oM fullShare ((bO b).overlay (mix b.val New Old) v) : sProp 𝕄) ⊢ has c oM fullShare (mix (b.val + 1) New Old) :=
  Entails.of_eq (congrArg (has c oM fullShare) (mix_step b New Old v hv))

variable {x : MemX} {w : MemW} {q q' : PosShare TreeShare}

/-- The first pass. -/
theorem pass0 (X : ArrX F) (W : ArrW F) (O : ArrO F) (k : KProg F) (Q : PUnit.{1} → sProp 𝕄) :
    iprop(has c x q X ∗ has c w q' W ∗ has c oM fullShare O)
      ⊢ iprop((iprop(has c x q X ∗ has c w q' W ∗ has c oM fullShare (new0 X W)) -∗ WP c k Q) -∗ WP c (pass (blk0 x w) k) Q) := by
  have h := chain_wp c Q (blk0 x w) (fun n => iprop(has c x q X ∗ has c w q' W ∗ has c oM fullShare (mix n (new0 X W) O)))
    (fun b k => ?_) 16 le_rfl k
  · rwa [mix_zero, mix_all] at h
  iintro ⟨Hx, Hw, Ho⟩ Hk
  unfold blk0
  iapply (load_at c X) $$ Hx; iintro Hx
  iapply (load_at c W) $$ Hw; iintro Hw
  iapply (load_at c _) $$ Ho; iintro Ho
  iapply (store_at c _) $$ Ho; iintro Ho
  iapply Hk
  isplitl [Hx]; · iexact Hx
  isplitl [Hw]; · iexact Hw
  iapply (stored c b (new0 X W) O
    (val0 (fun j => X ((bX b).emb j)) fun j => W (aW.emb j)) (new0_emb X W b))
  iexact Ho

/-- A middle pass. -/
theorem pass1 (X : ArrX F) (W : ArrW F) (O : ArrO F) (k : KProg F) (Q : PUnit.{1} → sProp 𝕄) :
    iprop(has c x q X ∗ has c w q' W ∗ has c oM fullShare O)
      ⊢ iprop((iprop(has c x q X ∗ has c w q' W ∗ has c oM fullShare (new1 X W O)) -∗ WP c k Q) -∗ WP c (pass (blk1 x w) k) Q) := by
  have h := chain_wp c Q (blk1 x w) (fun n => iprop(has c x q X ∗ has c w q' W ∗ has c oM fullShare (mix n (new1 X W O) O)))
    (fun b k => ?_) 16 le_rfl k
  · rwa [mix_zero, mix_all] at h
  iintro ⟨Hx, Hw, Ho⟩ Hk
  unfold blk1
  iapply (load_at c X) $$ Hx; iintro Hx
  iapply (load_at c W) $$ Hw; iintro Hw
  iapply (load_at c _) $$ Ho; iintro Ho
  iapply (load_at c _) $$ Ho; iintro Ho
  iapply (store_at c _) $$ Ho; iintro Ho
  simp only [mix_block]
  iapply Hk
  isplitl [Hx]; · iexact Hx
  isplitl [Hw]; · iexact Hw
  iapply (stored c b (new1 X W O) O
    (val1 (fun j => X ((bX b).emb j)) (fun j => W (aW.emb j)) fun j => O ((bO b).emb j)) (new1_emb X W O b))
  iexact Ho

/-- The last pass. -/
theorem pass2 {p p' : PosShare TreeShare} (X : ArrX F) (W : ArrW F) (sx sw : ArrS F) (O : ArrO F) (k : KProg F) (Q : PUnit.{1} → sProp 𝕄) :
    iprop(has c x q X ∗ has c w q' W ∗ has c sxM p sx ∗ has c swM p' sw ∗ has c oM fullShare O)
      ⊢ iprop((iprop(has c x q X ∗ has c w q' W ∗ has c sxM p sx ∗ has c swM p' sw ∗ has c oM fullShare (new2 X W sx sw O)) -∗ WP c k Q)
          -∗ WP c (pass (blk2 x w) k) Q) := by
  have h := chain_wp c Q (blk2 x w)
    (fun n => iprop(has c x q X ∗ has c w q' W ∗ has c sxM p sx ∗ has c swM p' sw ∗ has c oM fullShare (mix n (new2 X W sx sw O) O)))
    (fun b k => ?_) 16 le_rfl k
  · rwa [mix_zero, mix_all] at h
  iintro ⟨Hx, Hw, Hsx, Hsw, Ho⟩ Hk
  unfold blk2
  iapply (load_at c X) $$ Hx; iintro Hx
  iapply (load_at c W) $$ Hw; iintro Hw
  iapply (load_at c sx) $$ Hsx; iintro Hsx
  iapply (load_at c sw) $$ Hsw; iintro Hsw
  iapply (load_at c _) $$ Ho; iintro Ho
  iapply (load_at c _) $$ Ho; iintro Ho
  iapply (store_at c _) $$ Ho; iintro Ho
  simp only [mix_block]
  iapply Hk
  isplitl [Hx]; · iexact Hx
  isplitl [Hw]; · iexact Hw
  isplitl [Hsx]; · iexact Hsx
  isplitl [Hsw]; · iexact Hsw
  iapply (stored c b (new2 X W sx sw O) O
    (val2 (fun j => X ((bX b).emb j)) (fun j => W (aW.emb j)) (sx (aS.emb i1)) (sw (aS.emb i1)) fun j => O ((bO b).emb j)) (new2_emb X W sx sw O b))
  iexact Ho

end Pass

end Cert.Ring

end
-- ==== Proof.Proto.lean ====
/-
# The protocol

Every device has one barrier cell and, for each of the twelve copies, a send cell and a receive
cell. The barrier cell has two duties: each neighbour signals it once and with the signal hands
over the buffers that the device's copies towards that neighbour will fill. A copy pays its send
cell with the source lent to it and its receive cell with the destination filled. Each cell has one
round.
-/
module

public import proofs.«01_k».proof.Proof.Acc
public import Idealize.ShloMosaic.Lib.Rounds

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Where the kernel's own rounds live in the ghost state. -/
abbrev ER : Emb (URounds (GSem nD τ sig) Bool) 𝕄 := embR

/-! ## The ring -/

/-- Left, then right, is the device itself. -/
theorem nxt_prv (c : Dev nD) : nxt (prv c) = c := by revert c; decide
/-- Right, then left, is the device itself. -/
theorem prv_nxt (c : Dev nD) : prv (nxt c) = c := by revert c; decide
/-- Twice right is twice left. -/
theorem nxt_nxt (c : Dev nD) : nxt (nxt c) = prv (prv c) := by revert c; decide
/-- A copy's peer receives it from the device. -/
theorem origin_peer (i : Fin 12) (c : Dev nD) : origin i (peer i c) = c := by revert i c; decide
/-- A copy's origin sends it to the device. -/
theorem peer_origin (i : Fin 12) (c : Dev nD) : peer i (origin i c) = c := by revert i c; decide
/-- A copy to the right has the right neighbour as its peer. -/
theorem peer_right {i : Fin 12} (h : right i = true) (c : Dev nD) : peer i c = nxt c := if_pos h
/-- A copy to the left has the left neighbour as its peer. -/
theorem peer_left {i : Fin 12} (h : ¬ right i = true) (c : Dev nD) : peer i c = prv c := if_neg h

/-! ## The cells -/

/-- A device's semaphores for the copies: the senders' and the receivers'. -/
abbrev Xs := Fin 12 ⊕ Fin 12
/-- A device's semaphores in the protocol: the barrier's and those of the copies. -/
abbrev Ks := Unit ⊕ Xs

/-- The semaphores of the copies. -/
abbrev osem : Xs → SemLoc sig := Sum.elim (fun i => .dma (sendS i)) (fun i => .dma (recvS i))
/-- The semaphores of the protocol. -/
abbrev csem : Ks → SemLoc sig := Sum.elim (fun _ => .reg barS) osem

/-- The semaphores of the copies are distinct, and none is a staging semaphore. -/
theorem osem_facts : Pipeline.OwnSemFacts cfg0.spec osem := by decide +kernel

/-- The semaphores of the protocol are distinct. -/
theorem csem_inj : Function.Injective csem := by
  rintro (a | a) (b | b) h
  · rfl
  · rcases b with b | b <;> cases h
  · rcases a with a | a <;> cases h
  · exact congrArg Sum.inr (osem_facts.inj h)

/-- Which of the protocol's semaphores a semaphore is. -/
def kind (s : SemLoc sig) : Option Ks :=
  open Classical in if h : ∃ k, csem k = s then some h.choose else none
/-- The kind of a semaphore of the protocol. -/
theorem kind_csem (k : Ks) : kind (csem k) = some k := by
  have h : ∃ k', csem k' = csem k := ⟨k, rfl⟩
  unfold kind
  rw [dif_pos h, csem_inj h.choose_spec]
/-- The kind of a copy's send semaphore. -/
theorem kind_send (i : Fin 12) : kind (.dma (sendS i)) = some (.inr (.inl i)) := kind_csem (.inr (.inl i))
/-- The kind of a copy's receive semaphore. -/
theorem kind_recv (i : Fin 12) : kind (.dma (recvS i)) = some (.inr (.inr i)) := kind_csem (.inr (.inr i))
/-- The kind of the barrier's semaphore. -/
theorem kind_bar : kind (.reg barS) = some (.inl ()) := kind_csem (.inl ())
/-- A kind determines its semaphore. -/
theorem csem_of_kind {s : SemLoc sig} {k : Ks} (h : kind s = some k) : csem k = s := by
  unfold kind at h
  split at h
  next h' => rw [← Option.some.inj h]; exact h'.choose_spec
  next => cases h

/-- A device's cell. -/
abbrev kcell (x : Dev nD × Ks) : GSem nD τ sig := ((x.1 : Thread nD τ), csem x.2)
abbrev bCell (c : Dev nD) : GSem nD τ sig := ((c : Thread nD τ), .reg barS)
abbrev sCell (i : Fin 12) (c : Dev nD) : GSem nD τ sig := ((c : Thread nD τ), .dma (sendS i))
abbrev rCell (i : Fin 12) (c : Dev nD) : GSem nD τ sig := ((c : Thread nD τ), .dma (recvS i))

/-- What a copy adds to its two cells. -/
def amt (i : Fin 12) : ℕ := (cp i).dst.view.dmaCredit
/-- A copy adds as much for its source as for its destination. -/
theorem amt_src : ∀ i : Fin 12, (cp i).src.view.dmaCredit = amt i
  | 0 | 1 | 2 | 3 | 4 | 5 | 6 | 7 | 8 | 9 | 10 | 11 => rfl
/-- A copy adds something. -/
theorem amt_pos : ∀ i : Fin 12, 0 < amt i
  | 0 | 1 | 4 | 5 | 8 | 10 => View.dmaCredit_pos _ (by decide)
  | 2 | 3 | 6 | 7 | 9 | 11 => View.dmaCredit_pos _ (by decide)

/-! ## The contents -/

section Contents

variable (X : Dev nD → ArrX F) (W : Dev nD → ArrW F)

/-- What copy `i` carries from device `c`: half of an operand of its own, or of the neighbour it got it from. -/
def data : (i : Fin 12) → Dev nD → (cp i).s.Idx → Elt F (cp i).e := fun
  | 0, c => fun j => X c ((rX 0).emb j)
  | 1, c => fun j => X c ((rX 1).emb j)
  | 2, c => fun j => W c ((rW 0).emb j)
  | 3, c => fun j => W c ((rW 1).emb j)
  | 4, c => fun j => X c ((rX 0).emb j)
  | 5, c => fun j => X c ((rX 1).emb j)
  | 6, c => fun j => W c ((rW 0).emb j)
  | 7, c => fun j => W c ((rW 1).emb j)
  | 8, c => fun j => X (prv c) ((rX 0).emb j)
  | 9, c => fun j => W (prv c) ((rW 0).emb j)
  | 10, c => fun j => X (nxt c) ((rX 1).emb j)
  | 11, c => fun j => W (nxt c) ((rW 1).emb j)

/-- The share of its source a copy is lent. -/
def lent : Fin 12 → PosShare TreeShare := fun
  | 0 | 1 | 2 | 3 => fullShare.right.left
  | 4 | 5 | 6 | 7 => fullShare.right.right
  | 8 | 9 | 10 | 11 => fullShare.right

/-- Copy `i`'s source on device `c`, at the lent share. -/
def source (i : Fin 12) (c : Dev nD) : sProp 𝕄 := has c (cp i).src (lent i) (data X W i c)
/-- Copy `i`'s destination on device `c`, filled. -/
def filled (i : Fin 12) (c : Dev nD) : sProp 𝕄 := has c (cp i).dst fullShare (data X W i (origin i c))
/-- Copy `i`'s destination on device `c`, holding anything. -/
def room (i : Fin 12) (c : Dev nD) : sProp 𝕄 := iprop(∃ Y, has c (cp i).dst fullShare Y)

instance source_storable (i : Fin 12) (c : Dev nD) : BI.Storable (upEmb : UEmb _ 𝕄) (source X W i c) := by unfold source; infer_instance
instance filled_storable (i : Fin 12) (c : Dev nD) : BI.Storable (upEmb : UEmb _ 𝕄) (filled X W i c) := by unfold filled; infer_instance
instance room_storable (i : Fin 12) (c : Dev nD) : BI.Storable (upEmb : UEmb _ 𝕄) (room (F := F) i c) := by unfold room; infer_instance

/-- What the neighbour in direction `d` hands device `c` with its signal: the destinations of `c`'s copies that go there. -/
def handed (c : Dev nD) (d : Bool) : sProp 𝕄 := bigSep (Finset.univ.filter fun i => right i = d) fun i => room i (peer i c)

instance handed_storable (c : Dev nD) (d : Bool) : BI.Storable (upEmb : UEmb _ 𝕄) (handed (F := F) c d) := by unfold handed; infer_instance

/-! ## The schedule -/

/-- A cell's duties: two at the barrier, one at a copy's cells. -/
def dutiesOf : Option Ks → Finset Bool
  | some (.inl _) => Finset.univ
  | some (.inr _) => {false}
  | none => ∅
/-- What a duty adds. -/
def amountOf : Option Ks → ℕ
  | some (.inr (.inl i)) | some (.inr (.inr i)) => amt i
  | some (.inl _) | none => 1
/-- What a duty hands over. -/
def payOf (c : Dev nD) : Option Ks → Bool → sProp 𝕄
  | some (.inl _), d => handed c d
  | some (.inr (.inl i)), _ => source X W i c
  | some (.inr (.inr i)), _ => filled X W i c
  | none, _ => iprop(emp)

/-- The schedule: one round a cell. -/
def sched : Rounds.Schedule (GSem nD τ sig) Bool 𝕄 where
  duties g r := if r = 0 ∧ g.1.2 = .tc then dutiesOf (kind g.2) else ∅
  unitless _ := False
  amount g _ _ := amountOf (kind g.2)
  payload g _ d := payOf X W g.1.1 (kind g.2) d
  amount_pos g _ _ _ := by
    show 0 < amountOf (kind g.2)
    rcases kind g.2 with _ | (_ | (i | i))
    · exact Nat.one_pos
    · exact Nat.one_pos
    · exact amt_pos i
    · exact amt_pos i

instance sched_storable (g : GSem nD τ sig) (r : ℕ) (d : Bool) :
    BI.Storable (upEmb : UEmb _ 𝕄) ((sched X W).payload g r d) := by
  show BI.Storable upEmb (payOf X W g.1.1 (kind g.2) d)
  rcases kind g.2 with _ | (_ | (i | i)) <;> unfold payOf <;> infer_instance

variable (c : Dev nD)

/-- The duties of the one round of a cell. -/
theorem duties_at (k : Ks) : (sched X W).duties (kcell (c, k)) 0 = dutiesOf (some k) := by
  dsimp only [sched]; rw [if_pos ⟨rfl, rfl⟩, kind_csem]
/-- No later round has duties. -/
theorem duties_later (g : GSem nD τ sig) : ∀ r, 0 + 1 ≤ r → (sched X W).duties g r = ∅ :=
  fun r hr => by dsimp only [sched]; exact if_neg fun h => by omega
/-- The amount of a duty, by the kind of its cell. -/
theorem amount_at (k : Ks) (d : Bool) : (sched X W).amount (kcell (c, k)) 0 d = amountOf (some k) := by
  dsimp only [sched]; rw [kind_csem]
/-- The payload of a duty, by the kind of its cell. -/
theorem payload_at (k : Ks) (d : Bool) : (sched X W).payload (kcell (c, k)) 0 d = payOf X W c (some k) d := by
  dsimp only [sched]; rw [kind_csem]

/-- The barrier's round is of two units. -/
theorem expect_bar : (sched X W).expect (bCell c) 0 = 2 := by
  unfold Schedule.expect Schedule.amountOf
  rw [show (sched X W).duties (bCell c) 0 = Finset.univ from duties_at X W c (.inl ()),
    Finset.sum_congr rfl fun d _ => show (sched X W).amount (bCell c) 0 d = 1 from amount_at X W c (.inl ()) d]
  rfl
/-- A copy's cell's round is of what the copy adds. -/
theorem expect_copy (x : Xs) : (sched X W).expect (kcell (c, .inr x)) 0 = amountOf (some (.inr x)) := by
  unfold Schedule.expect Schedule.amountOf
  rw [duties_at, dutiesOf, Finset.sum_singleton, amount_at]

/-- The barrier's round hands over both neighbours' buffers. -/
theorem rest_bar : bigSep ((sched X W).duties (bCell c) 0 \ ∅) (fun d => (sched X W).payload (bCell c) 0 d)
    = (iprop(handed c false ∗ handed c true) : sProp 𝕄) := by
  rw [Finset.sdiff_empty, show (sched X W).duties (bCell c) 0 = Finset.univ from duties_at X W c (.inl ()),
    bigSep_univ_eq_bigSepL [false, true] (by decide) (by decide), bigSepL_cons_cons, bigSepL_singleton,
    show (sched X W).payload (bCell c) 0 false = handed c false from payload_at X W c (.inl ()) false,
    show (sched X W).payload (bCell c) 0 true = handed c true from payload_at X W c (.inl ()) true]
  rfl
/-- A copy's cell's round hands over its one payload. -/
theorem rest_copy (x : Xs) : bigSep ((sched X W).duties (kcell (c, .inr x)) 0 \ ∅) (fun d => (sched X W).payload (kcell (c, .inr x)) 0 d)
    = payOf X W c (some (.inr x)) false := by
  rw [Finset.sdiff_empty, duties_at, dutiesOf, bigSep_singleton, payload_at]

/-- The barrier has a duty for each neighbour. -/
theorem duties_bar : (sched X W).duties (bCell c) 0 = Finset.univ := duties_at X W c (.inl ())
/-- A send cell has one duty. -/
theorem duties_send (i : Fin 12) : (sched X W).duties (sCell i c) 0 = {false} := duties_at X W c (.inr (.inl i))
/-- A receive cell has one duty. -/
theorem duties_recv (i : Fin 12) : (sched X W).duties (rCell i c) 0 = {false} := duties_at X W c (.inr (.inr i))
/-- A neighbour's signal hands over that neighbour's buffers. -/
theorem payload_bar (d : Bool) : (sched X W).payload (bCell c) 0 d = handed c d := payload_at X W c (.inl ()) d
/-- A send cell gives back the copy's source. -/
theorem payload_send (i : Fin 12) (d : Bool) : (sched X W).payload (sCell i c) 0 d = source X W i c := payload_at X W c (.inr (.inl i)) d
/-- A receive cell hands over the copy's filled destination. -/
theorem payload_recv (i : Fin 12) (d : Bool) : (sched X W).payload (rCell i c) 0 d = filled X W i c := payload_at X W c (.inr (.inr i)) d
/-- A send cell's round gives back the copy's source. -/
theorem rest_send (i : Fin 12) : bigSep ((sched X W).duties (sCell i c) 0 \ ∅) (fun d => (sched X W).payload (sCell i c) 0 d)
    = source X W i c := rest_copy X W c (.inl i)
/-- A receive cell's round hands over the filled destination. -/
theorem rest_recv (i : Fin 12) : bigSep ((sched X W).duties (rCell i c) 0 \ ∅) (fun d => (sched X W).payload (rCell i c) 0 d)
    = filled X W i c := rest_copy X W c (.inr i)

end Contents

/-! ## Debts and levels -/

/-- What device `c` owes for the copies of a list, the first to be sent last in the sum. -/
def due (c : Dev nD) : List (Fin 12) → CellTallies nD τ sig Unit
  | [] => 0
  | i :: l => due c l + tallyAt (rCell i (peer i c)) () (amt i)

/-- All copies, in the order sent. -/
abbrev allCopies : List (Fin 12) := [0, 1, 2, 3, 4, 5, 6, 7, 8, 9, 10, 11]

/-- What device `c` owes at launch: its copies and a unit to each neighbour's barrier. -/
def O₀ (c : Dev nD) : CellTallies nD τ sig Unit :=
  due c allCopies + tallyAt (bCell (nxt c)) () 1 + tallyAt (bCell (prv c)) () 1

/-- The levels are of the cells of the devices' cores. -/
def L (g : GSem nD τ sig) : Finset Unit := if g.1.2 = .tc then {()} else ∅
/-- The level of a kind of cell: the barrier below the receive cells, those of the first eight copies below the others. -/
def lvOf : Option Ks → ℕ
  | some (.inl _) => 1
  | some (.inr (.inr i)) => if i.val < 8 then 2 else 3
  | some (.inr (.inl _)) | none => 0
/-- The level of a cell. -/
def lv (g : GSem nD τ sig) (_ : Unit) : ℕ := lvOf (kind g.2)

/-- Other cores have no levels. -/
theorem L_of_ne (g : GSem nD τ sig) (h : g.1.2 ≠ .tc) : L g = ∅ := if_neg h
/-- The cells of the devices' cores have one level each. -/
theorem L_tc (c : Dev nD) (s : SemLoc sig) : L ((c : Thread nD τ), s) = {()} := if_pos rfl

/-- A tally at one cell is positive at that cell only. -/
theorem tally_pos {g g' : GSem nD τ sig} {n : ℕ} {u : Unit} (h : 0 < (tallyAt g' () n : CellTallies nD τ sig Unit) g u) : g = g' := by
  rw [tallyAt_apply] at h
  by_contra hn
  rw [if_neg fun h' => hn h'.1] at h
  exact Nat.lt_irrefl 0 h

/-- The copies of a list are owed at the receive cells of their peers. -/
theorem due_pos {c : Dev nD} {l : List (Fin 12)} {g : GSem nD τ sig} {u : Unit} (h : 0 < due c l g u) :
    ∃ i ∈ l, g = rCell i (peer i c) := by
  induction l with
  | nil => exact absurd h (Nat.lt_irrefl 0)
  | cons i l ih =>
    rw [due, Pi.add_apply, Finsupp.add_apply] at h
    rcases Nat.eq_zero_or_pos (due c l g u) with h0 | h0
    · rw [h0, Nat.zero_add] at h; exact ⟨i, List.mem_cons_self, tally_pos h⟩
    · obtain ⟨j, hj, e⟩ := ih h0; exact ⟨j, List.mem_cons_of_mem i hj, e⟩

/-- At launch a device owes at receive cells and barriers only. -/
theorem O₀_pos {c : Dev nD} {g : GSem nD τ sig} {u : Unit} (h : 0 < O₀ c g u) :
    (∃ i, g = rCell i (peer i c)) ∨ ∃ c', g = bCell c' := by
  unfold O₀ at h
  rw [Pi.add_apply, Finsupp.add_apply, Pi.add_apply, Finsupp.add_apply] at h
  by_cases h1 : 0 < due c allCopies g u
  · obtain ⟨i, -, e⟩ := due_pos h1; exact .inl ⟨i, e⟩
  · by_cases h2 : 0 < (tallyAt (bCell (nxt c)) () 1 : CellTallies nD τ sig Unit) g u
    · exact .inr ⟨_, tally_pos h2⟩
    · exact .inr ⟨_, tally_pos (by omega : 0 < (tallyAt (bCell (prv c)) () 1 : CellTallies nD τ sig Unit) g u)⟩

/-- A device may wait on a cell below all it owes. -/
theorem mayWait_below (c : Dev nD) (s : SemLoc sig) (O : CellTallies nD τ sig Unit)
    (hO : ∀ g u, 0 < O g u → g.1.2 = .tc ∧ lvOf (kind s) < lvOf (kind g.2)) :
    (levAts L lv : sProp 𝕄) ⊢ MayWait (c : Thread nD τ) s () O :=
  MayOwe.of_cut (L := L) (lev := lv) (lvOf (kind s))
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact le_rfl)
    (fun g u hg => (hO g u hg).2)

/-- A device may wait below the receive cells of the copies it owes. -/
theorem mayWait_due (c : Dev nD) (s : SemLoc sig) (l : List (Fin 12)) (hl : ∀ i ∈ l, lvOf (kind s) < if i.val < 8 then 2 else 3) :
    (levAts L lv : sProp 𝕄) ⊢ MayWait (c : Thread nD τ) s () (due c l) :=
  mayWait_below c s _ fun g u hg => by
    obtain ⟨i, hi, rfl⟩ := due_pos hg
    refine ⟨rfl, ?_⟩
    show _ < lvOf (kind (.dma (recvS i)))
    rw [kind_recv]; exact hl i hi

/-- A device may wait on a cell at level zero, owing what it owes at launch. -/
theorem mayWait_launch (c : Dev nD) (s : SemLoc sig) (hs : lvOf (kind s) = 0) :
    (levAts L lv : sProp 𝕄) ⊢ MayWait (c : Thread nD τ) s () (O₀ c) :=
  mayWait_below c s _ fun g u hg => by
    rw [hs]
    rcases O₀_pos hg with ⟨i, rfl⟩ | ⟨c', rfl⟩
    · refine ⟨rfl, ?_⟩
      show 0 < lvOf (kind (.dma (recvS i)))
      rw [kind_recv, lvOf]; split <;> decide
    · refine ⟨rfl, ?_⟩
      show 0 < lvOf (kind (.reg barS))
      rw [kind_bar]; decide

end Cert.Ring

end
-- ==== Proof.Steps.lean ====
/-
# The steps of the protocol

A buffer is split into its two halves and joined again. Then the rule of each kind of step the
kernel takes, for all twelve copies at once: starting a copy, waiting until it has been sent, waiting
until it has arrived; and the handshake at the beginning.
-/
module

public import proofs.«01_k».proof.Proof.Proto

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Halves of a buffer -/

/-- The halves of a left operand are disjoint. -/
theorem rX_disjoint (t t' : Fin 2) (h : t ≠ t') : Disjoint (rX t).set (rX t').set :=
  Rect.unit_disjoint 0 (by revert t t'; decide)
/-- The halves of a right operand are disjoint. -/
theorem rW_disjoint (t t' : Fin 2) (h : t ≠ t') : Disjoint (rW t).set (rW t').set :=
  Rect.unit_disjoint 0 (by revert t t'; decide)

/-- The halves of a left operand cover it. -/
theorem rX_cover : (Finset.univ : Finset (Fin 2)).biUnion (fun t => (rX t).set) = Finset.univ := by
  ext j
  simp only [Finset.mem_biUnion, Finset.mem_univ, true_and, iff_true]
  have h0 : (j 0).val < 4096 := (j 0).isLt
  have h1 : (j 1).val < 1024 := (j 1).isLt
  by_cases h : (j 0).val < 2048
  · refine ⟨0, Rect.mem_set_unit.mpr fun a => ?_⟩
    fin_cases a
    · exact ⟨Nat.zero_le _, by simpa using h⟩
    · exact ⟨Nat.zero_le _, by simpa using h1⟩
  · refine ⟨1, Rect.mem_set_unit.mpr fun a => ?_⟩
    fin_cases a
    · exact ⟨by simpa using h, by simpa using h0⟩
    · exact ⟨Nat.zero_le _, by simpa using h1⟩
/-- The halves of a right operand cover it. -/
theorem rW_cover : (Finset.univ : Finset (Fin 2)).biUnion (fun t => (rW t).set) = Finset.univ := by
  ext j
  simp only [Finset.mem_biUnion, Finset.mem_univ, true_and, iff_true]
  have h0 : (j 0).val < 1024 := (j 0).isLt
  have h1 : (j 1).val < 2048 := (j 1).isLt
  by_cases h : (j 0).val < 512
  · refine ⟨0, Rect.mem_set_unit.mpr fun a => ?_⟩
    fin_cases a
    · exact ⟨Nat.zero_le _, by simpa using h⟩
    · exact ⟨Nat.zero_le _, by simpa using h1⟩
  · refine ⟨1, Rect.mem_set_unit.mpr fun a => ?_⟩
    fin_cases a
    · exact ⟨by simpa using h, by simpa using h0⟩
    · exact ⟨Nat.zero_le _, by simpa using h1⟩

section Halves

variable (c : Dev nD) (q : PosShare TreeShare)

/-- A left operand's buffer is its two halves. -/
theorem halvesX (m : MemX) (X : ArrX F) : (has c m q X : sProp 𝕄)
    ⊣⊢ iprop(has c (halfX m 0) q (fun j => X ((rX 0).emb j)) ∗ has c (halfX m 1) q (fun j => X ((rX 1).emb j))) := by
  have e := bigSep_fin_two (fun t : Fin 2 => (has c (halfX m t) q (fun j => X ((rX t).emb j)) : sProp 𝕄))
  exact ⟨(owns_rects (c : Thread nD τ) m q rX (fun _ _ => rfl) rX_disjoint rX_cover X).trans (Entails.of_eq e),
    (Entails.of_eq e.symm).trans (owns_of_rects (c : Thread nD τ) m q rX (fun _ _ => rfl) rX_disjoint rX_cover X)⟩
/-- A right operand's buffer is its two halves. -/
theorem halvesW (m : MemW) (W : ArrW F) : (has c m q W : sProp 𝕄)
    ⊣⊢ iprop(has c (halfW m 0) q (fun j => W ((rW 0).emb j)) ∗ has c (halfW m 1) q (fun j => W ((rW 1).emb j))) := by
  have e := bigSep_fin_two (fun t : Fin 2 => (has c (halfW m t) q (fun j => W ((rW t).emb j)) : sProp 𝕄))
  exact ⟨(owns_rects (c : Thread nD τ) m q rW (fun _ _ => rfl) rW_disjoint rW_cover W).trans (Entails.of_eq e),
    (Entails.of_eq e.symm).trans (owns_of_rects (c : Thread nD τ) m q rW (fun _ _ => rfl) rW_disjoint rW_cover W)⟩

end Halves

/-! ## What a device holds for the protocol -/

section Held

variable (X : Dev nD → ArrX F) (W : Dev nD → ArrW F)

/-- What all devices know: every cell's invariant, that every cell's round is open, the levels. -/
def records (K : Dev nD × Ks → ℕ) : sProp 𝕄 :=
  iprop((bigSep Finset.univ fun x : Dev nD × Ks => cellInv ER (sched X W) (K x) (kcell x))
    ∗ (bigSep Finset.univ fun x : Dev nD × Ks => reached ER (kcell x) 0) ∗ levAts L lv)

instance records_persistent (K : Dev nD × Ks → ℕ) : BI.Persistent (records X W K) := by unfold records; infer_instance

variable (K : Dev nD × Ks → ℕ)

/-- A cell's invariant, from the records. -/
theorem inv_at (c : Dev nD) (k : Ks) : records X W K ⊢ cellInv ER (sched X W) (K (c, k)) (kcell (c, k)) := by
  refine BIBase.Entails.trans ?_ (bigSep_elim (Φ := fun x : Dev nD × Ks => (cellInv ER (sched X W) (K x) (kcell x) : sProp 𝕄)) (Finset.mem_univ (c, k)))
  unfold records; iintro ⟨H, -, -⟩; iexact H
/-- A cell's round, from the records. -/
theorem reached_at (c : Dev nD) (k : Ks) : records X W K ⊢ reached ER (kcell (c, k)) 0 := by
  refine BIBase.Entails.trans ?_ (bigSep_elim (Φ := fun x : Dev nD × Ks => (reached ER (kcell x) 0 : sProp 𝕄)) (Finset.mem_univ (c, k)))
  unfold records; iintro ⟨-, H, -⟩; iexact H
/-- The levels, from the records. -/
theorem levels : records X W K ⊢ levAts L lv := by
  unfold records; iintro ⟨-, -, H⟩; iexact H

end Held

/-- What starting copy `i` takes: the right to pay both its cells; and the device's place at its send cell. -/
def toSend (i : Fin 12) (c : Dev nD) : sProp 𝕄 :=
  iprop(dutyTok ER (sCell i c) 0 false ∗ dutyTok ER (rCell i (peer i c)) 0 false ∗ atPos ER (sCell i c) 0 ∅ 0)
/-- What waiting until copy `i` is sent takes. -/
def sending (i : Fin 12) (c : Dev nD) : sProp 𝕄 :=
  iprop(cred (tallyAt (sCell i c) () (amt i)) ∗ atPos ER (sCell i c) 0 ∅ 0)
/-- What waiting until copy `i` has arrived takes. -/
def toReceive (i : Fin 12) (c : Dev nD) : sProp 𝕄 :=
  iprop(cred (tallyAt (rCell i c) () (amt i)) ∗ atPos ER (rCell i c) 0 ∅ 0)
/-- What the handshake takes. -/
def toGreet (c : Dev nD) : sProp 𝕄 :=
  iprop(dutyTok ER (bCell (prv c)) 0 true ∗ dutyTok ER (bCell (nxt c)) 0 false
    ∗ cred (tallyAt (bCell c) () 2) ∗ atPos ER (bCell c) 0 ∅ 0)
/-- What a device owes, whatever it has waited on. -/
def owing (c : Dev nD) (O : CellTallies nD τ sig Unit) : sProp 𝕄 := iprop(∃ U, owes (c : Thread nD τ) O U)

section Steps

variable (X : Dev nD → ArrX F) (W : Dev nD → ArrW F) (K : Dev nD × Ks → ℕ) (c : Dev nD)

/-- Start copy `i`: hand in the source at the lent share and the destination on the peer. -/
theorem send_step (i : Fin 12) (l : List (Fin 12)) (k : KProg F) (Q : PUnit.{1} → sProp 𝕄) :
    iprop(records X W K ∗ toSend i c ∗ source X W i c ∗ room i (peer i c) ∗ owing c (due c (i :: l)))
      ⊢ iprop((iprop(sending i c ∗ owing c (due c l)) -∗ WP c k Q) -∗ WP c (sendP i (peer i c) k) Q) := by
  unfold toSend sending source room owing has owns sendP
  iintro ⟨#HR, ⟨Hs, Hr, Hat⟩, ⟨%fs, %hfs, Hsrc⟩, ⟨%Y, %fd, %hfd, Hdst⟩, ⟨%U, HO⟩⟩ Hk
  have hp₁ : ((cp i).src.view.loc (c : Thread nD τ) ↦[(cp i).src.view.set]{lent i} fs : sProp 𝕄)
      ⊢ (sched X W).payload (sCell i c) 0 false := by
    rw [payload_send]; unfold source has owns
    iintro H; iexists fs; isplitr; · ipureintro; exact hfs
    iexact H
  have hp₂ : ((cp i).dst.view.loc (peer i c : Thread nD τ) ↦[(cp i).dst.view.set]{fullShare}
        ((cp i).dst.view.write (Elt F) fd ((cp i).src.view.read (Elt F) fs) Finset.univ) : sProp 𝕄)
      ⊢ (sched X W).payload (rCell i (peer i c)) 0 false := by
    rw [payload_recv]; unfold filled has owns
    iintro H
    iexists ((cp i).dst.view.write (Elt F) fd ((cp i).src.view.read (Elt F) fs) Finset.univ)
    isplitr
    · ipureintro; rw [View.read_write_univ, hfs, origin_peer]
    iexact H
  iapply (Rounds.wp_send_pointsTo 𝒱₀ ER (sched X W) (c : Thread nD τ) none (c' := (peer i c : Thread nD τ))
      (src := (cp i).src) (dst := (cp i).dst) (sS := .dma (sendS i)) (sem := .dma (recvS i))
      (κ₁ := K (c, .inr (.inl i))) (κ₂ := K (peer i c, .inr (.inr i)))
      (q := lent i) (fs := fs) (fd := fd) (r₁ := 0) (r₂ := 0) (d₁ := false) (d₂ := false)
      (by rw [duties_send]; exact Finset.mem_singleton_self _)
      (by rw [duties_recv]; exact Finset.mem_singleton_self _)
      () () (amt i) rfl (amount_at X W c (.inr (.inl i)) false) (amount_at X W (peer i c) (.inr (.inr i)) false)
      (due c l) rfl (W := U) hp₁ hp₂) $$ [Hs Hr Hsrc Hdst HO]
  · isplitr; · iapply (inv_at X W K c (.inr (.inl i))); iexact HR
    isplitr; · iapply (inv_at X W K (peer i c) (.inr (.inr i))); iexact HR
    isplitl [Hsrc]; · iexact Hsrc
    isplitl [Hdst]; · iexact Hdst
    isplitl [HO]; · iexact HO
    isplitl [Hs]; · iexact Hs
    isplitr; · iapply (reached_at X W K c (.inr (.inl i))); iexact HR
    isplitl [Hr]; · iexact Hr
    iapply (reached_at X W K (peer i c) (.inr (.inr i))); iexact HR
  · iintro ⟨Hcr, HO⟩
    iapply Hk
    isplitl [Hcr Hat]
    · isplitl [Hcr] <;> iassumption
    iexists U; iexact HO

/-- Wait until copy `i` is sent: its source comes back and the send cell is done with. -/
theorem sent_step (i : Fin 12) (l : List (Fin 12)) (k : KProg F) (Q : PUnit.{1} → sProp 𝕄) (hl : l = []) :
    iprop(records X W K ∗ sending i c ∗ owing c (due c l))
      ⊢ iprop((iprop(source X W i c ∗ semVal (sCell i c) 0 ∗ owing c (due c l)) -∗ WP c k Q) -∗ WP c (sentP i k) Q) := by
  unfold sending owing sentP
  iintro ⟨#HR, ⟨Hcr, Hat⟩, ⟨%U, HO⟩⟩ Hk
  iapply (Rounds.wp_wait_rest_token 𝒱₀ ER (sched X W) (c : Thread nD τ) none (κ := K (c, .inr (.inl i))) (sm := .dma (sendS i))
      (wpE_waitDma2_eq 𝒱₀ (c : Thread nD τ) none Set.univ) (Set.mem_univ _) () (O := due c l) (W := U) (R := 0) (m := 0) (T := ∅)
      (by rw [Nat.zero_add, amt_src]; exact (expect_copy X W c (.inl i)).symm)) $$ [Hcr HO Hat]
  · isplitr; · iapply (inv_at X W K c (.inr (.inl i))); iexact HR
    isplitl [Hcr]; · rw [amt_src]; iexact Hcr
    isplitl [HO]; · iexact HO
    isplitr; · iapply (mayWait_due c _ l (by subst hl; intro i hi; cases hi)); iapply (levels X W K); iexact HR
    iexact Hat
  iintro ⟨HO, Hat, -, Hpay⟩
  ihave Hp := (Entails.of_eq (rest_send X W c i)) $$ Hpay
  imod (Rounds.cell_close ER (sched X W) (Es := Set.univ) (Set.mem_univ (K (c, .inr (.inl i)))) (fun h => h) (R := 0 + 1) (duties_later X W (sCell i c))) $$ [Hat] with Hz
  · isplitr; · iapply (inv_at X W K c (.inr (.inl i))); iexact HR
    iexact Hat
  iapply Hk
  isplitl [Hp]; · iexact Hp
  isplitl [Hz]; · iexact Hz
  iexists _; iexact HO

/-- Wait until copy `i` has arrived: its destination comes filled and the receive cell is done with. -/
theorem recv_step (i : Fin 12) (l : List (Fin 12)) (hl : ∀ j ∈ l, i.val < 8 ∧ 8 ≤ j.val) (k : KProg F) (Q : PUnit.{1} → sProp 𝕄) :
    iprop(records X W K ∗ toReceive i c ∗ owing c (due c l))
      ⊢ iprop((iprop(filled X W i c ∗ semVal (rCell i c) 0 ∗ owing c (due c l)) -∗ WP c k Q) -∗ WP c (recvP i k) Q) := by
  unfold toReceive owing recvP
  iintro ⟨#HR, ⟨Hcr, Hat⟩, ⟨%U, HO⟩⟩ Hk
  iapply (Rounds.wp_wait_rest_token 𝒱₀ ER (sched X W) (c : Thread nD τ) none (κ := K (c, .inr (.inr i))) (sm := .dma (recvS i))
      (wpE_waitDma2_eq 𝒱₀ (c : Thread nD τ) none Set.univ) (Set.mem_univ _) () (O := due c l) (W := U) (R := 0) (m := 0) (T := ∅)
      (by rw [Nat.zero_add]; exact (expect_copy X W c (.inr i)).symm)) $$ [Hcr HO Hat]
  · isplitr; · iapply (inv_at X W K c (.inr (.inr i))); iexact HR
    isplitl [Hcr]; · iexact Hcr
    isplitl [HO]; · iexact HO
    isplitr
    · iapply (mayWait_due c _ l (by
        intro j hj; rw [kind_recv, lvOf, if_pos (hl j hj).1, if_neg (by have := (hl j hj).2; omega)]; decide))
      iapply (levels X W K); iexact HR
    iexact Hat
  iintro ⟨HO, Hat, -, Hpay⟩
  ihave Hp := (Entails.of_eq (rest_recv X W c i)) $$ Hpay
  imod (Rounds.cell_close ER (sched X W) (Es := Set.univ) (Set.mem_univ (K (c, .inr (.inr i)))) (fun h => h) (R := 0 + 1) (duties_later X W (rCell i c))) $$ [Hat] with Hz
  · isplitr; · iapply (inv_at X W K c (.inr (.inr i))); iexact HR
    iexact Hat
  iapply Hk
  isplitl [Hp]; · iexact Hp
  isplitl [Hz]; · iexact Hz
  iexists _; iexact HO

/-- The copies not to the right are those to the left. -/
theorem left_filter : (Finset.univ.filter fun i : Fin 12 => ¬ right i = true) = Finset.univ.filter fun i => right i = false :=
  Finset.filter_congr fun i _ => by rw [Bool.not_eq_true]

/-- A device's own landing buffers, as it hands them to its neighbours. -/
theorem rooms_out : (bigSep Finset.univ fun i => room i c : sProp 𝕄) ⊢ iprop(handed (prv c) true ∗ handed (nxt c) false) := by
  rw [bigSep_filter_split Finset.univ (fun i => right i = true)]
  unfold handed
  rw [bigSep_congr (s := Finset.univ.filter fun i => right i = true) (Ψ := fun i => (room i (peer i (prv c)) : sProp 𝕄))
      (fun i hi => by rw [peer_right (Finset.mem_filter.mp hi).2, nxt_prv]),
    bigSep_congr (s := Finset.univ.filter fun i => ¬ right i = true) (Ψ := fun i => (room i (peer i (nxt c)) : sProp 𝕄))
      (fun i hi => by rw [peer_left (Finset.mem_filter.mp hi).2, prv_nxt]), left_filter]
  exact Entails.refl _
/-- What both neighbours hand a device: room for all its copies. -/
theorem rooms_in : iprop(handed c false ∗ handed c true) ⊢ (bigSep Finset.univ fun i => room i (peer i c) : sProp 𝕄) := by
  rw [bigSep_filter_split Finset.univ (fun i => right i = true)]
  unfold handed
  rw [left_filter]
  exact sep_comm.1

/-- The handshake: hand both neighbours the buffers their copies fill, get those the own copies fill. -/
theorem greet_step (k : KProg F) (Q : PUnit.{1} → sProp 𝕄) :
    iprop(records X W K ∗ toGreet c ∗ (bigSep Finset.univ fun i => room i c) ∗ owing c (O₀ c))
      ⊢ iprop((iprop((bigSep Finset.univ fun i => room i (peer i c)) ∗ semVal (bCell c) 0 ∗ owing c (due c allCopies)) -∗ WP c k Q)
          -∗ WP c (.op (.semSignal (Dev.tc (prv c)) barS 1) fun _ => .op (.semSignal (Dev.tc (nxt c)) barS 1) fun _ =>
              .op (.semWait barS 2) fun _ => k) Q) := by
  unfold toGreet owing O₀
  iintro ⟨#HR, ⟨HtP, HtN, Hcr, Hat⟩, Hrm, ⟨%U, HO⟩⟩ Hk
  ihave Hrm' := (rooms_out (F := F) c) $$ Hrm
  icases Hrm' with ⟨HrP, HrN⟩
  iapply (Rounds.wp_signal 𝒱₀ ER (sched X W) (c : Thread nD τ) none (dst := (prv c : Thread nD τ)) (κ := K (prv c, .inl ())) (sem := barS) (r := 0)
      (d := true) (by rw [duties_bar]; exact Finset.mem_univ _)
      (amount_at X W (prv c) (.inl ()) true) () (due c allCopies + tallyAt (bCell (nxt c)) () 1) rfl) $$ [HO HtP HrP]
  · isplitr; · iapply (inv_at X W K (prv c) (.inl ())); iexact HR
    isplitl [HO]; · iexact HO
    isplitl [HtP]; · iexact HtP
    isplitl [HrP]; · iapply (Entails.of_eq (payload_bar X W (prv c) true).symm); iexact HrP
    iapply (reached_at X W K (prv c) (.inl ())); iexact HR
  iintro HO
  iapply (Rounds.wp_signal 𝒱₀ ER (sched X W) (c : Thread nD τ) none (dst := (nxt c : Thread nD τ)) (κ := K (nxt c, .inl ())) (sem := barS) (r := 0)
      (d := false) (by rw [duties_bar]; exact Finset.mem_univ _)
      (amount_at X W (nxt c) (.inl ()) false) () (due c allCopies) rfl) $$ [HO HtN HrN]
  · isplitr; · iapply (inv_at X W K (nxt c) (.inl ())); iexact HR
    isplitl [HO]; · iexact HO
    isplitl [HtN]; · iexact HtN
    isplitl [HrN]; · iapply (Entails.of_eq (payload_bar X W (nxt c) false).symm); iexact HrN
    iapply (reached_at X W K (nxt c) (.inl ())); iexact HR
  iintro HO
  iapply (Rounds.wp_wait_rest_token 𝒱₀ ER (sched X W) (c : Thread nD τ) none (κ := K (c, .inl ())) (sm := .reg barS)
      (wpE_semWait_eq 𝒱₀ (c : Thread nD τ) none Set.univ) (Set.mem_univ _) () (O := due c allCopies) (W := U) (R := 0) (m := 0) (T := ∅)
      (by rw [expect_bar])) $$ [Hcr HO Hat]
  · isplitr; · iapply (inv_at X W K c (.inl ())); iexact HR
    isplitl [Hcr]; · iexact Hcr
    isplitl [HO]; · iexact HO
    isplitr
    · iapply (mayWait_due c _ allCopies (by intro j _; rw [kind_bar, lvOf]; split <;> decide))
      iapply (levels X W K); iexact HR
    iexact Hat
  iintro ⟨HO, Hat, -, Hpay⟩
  ihave Hp := (Entails.of_eq (rest_bar X W c)) $$ Hpay
  ihave Hp := (rooms_in (F := F) c) $$ Hp
  imod (Rounds.cell_close ER (sched X W) (Es := Set.univ) (Set.mem_univ (K (c, .inl ()))) (fun h => h) (R := 0 + 1) (duties_later X W (bCell c))) $$ [Hat] with Hz
  · isplitr; · iapply (inv_at X W K c (.inl ())); iexact HR
    iexact Hat
  iapply Hk
  isplitl [Hp]; · iexact Hp
  isplitl [Hz]; · iexact Hz
  iexists _; iexact HO

end Steps

/-! ## Several copies in a row -/

section Many

/-- An assertion for each copy of a list. -/
def each (Φ : Fin 12 → sProp 𝕄) : List (Fin 12) → sProp 𝕄
  | [] => iprop(emp)
  | i :: l => iprop(Φ i ∗ each Φ l)

/-- For each of one list and each of another is for each of both. -/
theorem each_append (Φ : Fin 12 → sProp 𝕄) (l l' : List (Fin 12)) : each Φ (l ++ l') ⊣⊢ iprop(each Φ l ∗ each Φ l') := by
  induction l with
  | nil => exact emp_sep.symm
  | cons i l ih =>
    exact ⟨(sep_mono_right ih.1).trans sep_assoc.2, sep_assoc.1.trans (sep_mono_right ih.2)⟩

/-- For each of a list without repetition is for all of the list's set. -/
theorem each_set (Φ : Fin 12 → sProp 𝕄) (l : List (Fin 12)) (hl : l.Nodup) : bigSep l.toFinset Φ ⊣⊢ each Φ l := by
  induction l with
  | nil => exact ⟨Entails.of_eq bigSep_empty, Entails.of_eq bigSep_empty.symm⟩
  | cons i l ih =>
    have h := List.nodup_cons.mp hl
    have e : bigSep (i :: l).toFinset Φ = iprop(Φ i ∗ bigSep l.toFinset Φ) := by
      rw [List.toFinset_cons]; exact bigSep_insert (by rw [List.mem_toFinset]; exact h.1)
    exact ⟨(Entails.of_eq e).trans (sep_mono_right (ih h.2).1), (sep_mono_right (ih h.2).2).trans (Entails.of_eq e.symm)⟩

/-- For all copies is for each of a list of them all. -/
theorem each_all (Φ : Fin 12 → sProp 𝕄) (l : List (Fin 12)) (h : Finset.univ = l.toFinset) (hl : l.Nodup) :
    bigSep Finset.univ Φ ⊣⊢ each Φ l := by
  rw [h]; exact each_set Φ l hl

variable (X : Dev nD → ArrX F) (W : Dev nD → ArrW F) (K : Dev nD × Ks → ℕ) (c : Dev nD)

/-- Start the copies of a list. -/
def sendsP (l : List (Fin 12)) (k : KProg F) : KProg F := l.foldr (fun i k => sendP i (peer i c) k) k
/-- Wait until the copies of a list are sent. -/
def sentsP (l : List (Fin 12)) (k : KProg F) : KProg F := l.foldr sentP k
/-- Wait until the copies of a list have arrived. -/
def recvsP (l : List (Fin 12)) (k : KProg F) : KProg F := l.foldr recvP k
/-- Wait, for each copy of a list, until it is sent and has arrived. -/
def bothP (l : List (Fin 12)) (k : KProg F) : KProg F := l.foldr (fun i k => sentP i (recvP i k)) k

/-- The copies of a list start, each with its source and its room. -/
theorem sends_step (l l' : List (Fin 12)) (k : KProg F) (Q : PUnit.{1} → sProp 𝕄) :
    iprop(records X W K ∗ each (fun i => toSend i c) l ∗ each (fun i => source X W i c) l ∗ each (fun i => room i (peer i c)) l
        ∗ owing c (due c (l ++ l')))
      ⊢ iprop((iprop(each (fun i => sending i c) l ∗ owing c (due c l')) -∗ WP c k Q) -∗ WP c (sendsP c l k) Q) := by
  induction l with
  | nil =>
    unfold each sendsP
    iintro ⟨-, H, -, -, HO⟩ Hk
    iapply Hk; isplitl [H]; · iexact H
    iexact HO
  | cons i l ih =>
    unfold each
    iintro ⟨#HR, ⟨S, Ss⟩, ⟨C, Cs⟩, ⟨R, Rs⟩, HO⟩ Hk
    iapply (send_step X W K c i (l ++ l') (sendsP c l k) Q) $$ [S C R HO]
    · isplitr; · iexact HR
      isplitl [S]; · iexact S
      isplitl [C]; · iexact C
      isplitl [R]; · iexact R
      iexact HO
    iintro ⟨S, HO⟩
    iapply ih $$ [Ss Cs Rs HO]
    · isplitr; · iexact HR
      isplitl [Ss]; · iexact Ss
      isplitl [Cs]; · iexact Cs
      isplitl [Rs]; · iexact Rs
      iexact HO
    iintro ⟨Ss, HO⟩
    iapply Hk
    isplitl [S Ss]
    · isplitl [S] <;> iassumption
    iexact HO

/-- The copies of a list are sent, and give their sources back. -/
theorem sents_step (l : List (Fin 12)) (k : KProg F) (Q : PUnit.{1} → sProp 𝕄) :
    iprop(records X W K ∗ each (fun i => sending i c) l ∗ owing c (due c []))
      ⊢ iprop((iprop(each (fun i => source X W i c) l ∗ each (fun i => semVal (sCell i c) 0) l ∗ owing c (due c [])) -∗ WP c k Q)
          -∗ WP c (sentsP l k) Q) := by
  induction l with
  | nil =>
    unfold each sentsP
    iintro ⟨-, H, HO⟩ Hk
    iapply Hk; isplitl [H]; · iexact H
    isplitr; · iempintro
    iexact HO
  | cons i l ih =>
    unfold each
    iintro ⟨#HR, ⟨S, Ss⟩, HO⟩ Hk
    iapply (sent_step X W K c i [] (sentsP l k) Q rfl) $$ [S HO]
    · isplitr; · iexact HR
      isplitl [S] <;> iassumption
    iintro ⟨C, Z, HO⟩
    iapply ih $$ [Ss HO]
    · isplitr; · iexact HR
      isplitl [Ss] <;> iassumption
    iintro ⟨Cs, Zs, HO⟩
    iapply Hk
    isplitl [C Cs]
    · isplitl [C] <;> iassumption
    isplitl [Z Zs]
    · isplitl [Z] <;> iassumption
    iexact HO

/-- The copies of a list have arrived, and hand over what they filled. -/
theorem recvs_step (l l' : List (Fin 12)) (hl : ∀ i ∈ l, ∀ j ∈ l', i.val < 8 ∧ 8 ≤ j.val) (k : KProg F) (Q : PUnit.{1} → sProp 𝕄) :
    iprop(records X W K ∗ each (fun i => toReceive i c) l ∗ owing c (due c l'))
      ⊢ iprop((iprop(each (fun i => filled X W i c) l ∗ each (fun i => semVal (rCell i c) 0) l ∗ owing c (due c l')) -∗ WP c k Q)
          -∗ WP c (recvsP l k) Q) := by
  induction l with
  | nil =>
    unfold each recvsP
    iintro ⟨-, H, HO⟩ Hk
    iapply Hk; isplitl [H]; · iexact H
    isplitr; · iempintro
    iexact HO
  | cons i l ih =>
    unfold each
    iintro ⟨#HR, ⟨V, Vs⟩, HO⟩ Hk
    iapply (recv_step X W K c i l' (hl i List.mem_cons_self) (recvsP l k) Q) $$ [V HO]
    · isplitr; · iexact HR
      isplitl [V] <;> iassumption
    iintro ⟨C, Z, HO⟩
    iapply (ih fun j hj => hl j (List.mem_cons_of_mem i hj)) $$ [Vs HO]
    · isplitr; · iexact HR
      isplitl [Vs] <;> iassumption
    iintro ⟨Cs, Zs, HO⟩
    iapply Hk
    isplitl [C Cs]
    · isplitl [C] <;> iassumption
    isplitl [Z Zs]
    · isplitl [Z] <;> iassumption
    iexact HO

/-- The copies of a list are sent and have arrived. -/
theorem both_step (l : List (Fin 12)) (k : KProg F) (Q : PUnit.{1} → sProp 𝕄) :
    iprop(records X W K ∗ each (fun i => sending i c) l ∗ each (fun i => toReceive i c) l ∗ owing c (due c []))
      ⊢ iprop((iprop((each (fun i => source X W i c) l ∗ each (fun i => semVal (sCell i c) 0) l)
            ∗ (each (fun i => filled X W i c) l ∗ each (fun i => semVal (rCell i c) 0) l) ∗ owing c (due c [])) -∗ WP c k Q)
          -∗ WP c (bothP l k) Q) := by
  induction l with
  | nil =>
    unfold each bothP
    iintro ⟨-, H, H', HO⟩ Hk
    iapply Hk
    isplitl [H]; · isplitl [H]; · iexact H
                   iempintro
    isplitl [H']; · isplitl [H']; · iexact H'
                    iempintro
    iexact HO
  | cons i l ih =>
    unfold each
    iintro ⟨#HR, ⟨S, Ss⟩, ⟨V, Vs⟩, HO⟩ Hk
    iapply (sent_step X W K c i [] (recvP i (bothP l k)) Q rfl) $$ [S HO]
    · isplitr; · iexact HR
      isplitl [S] <;> iassumption
    iintro ⟨C, Z, HO⟩
    iapply (recv_step X W K c i [] (fun _ h => by cases h) (bothP l k) Q) $$ [V HO]
    · isplitr; · iexact HR
      isplitl [V] <;> iassumption
    iintro ⟨D, Y, HO⟩
    iapply ih $$ [Ss Vs HO]
    · isplitr; · iexact HR
      isplitl [Ss]; · iexact Ss
      isplitl [Vs] <;> iassumption
    iintro ⟨⟨Cs, Zs⟩, ⟨Ds, Ys⟩, HO⟩
    iapply Hk
    isplitl [C Cs Z Zs]
    · isplitl [C Cs]
      · isplitl [C] <;> iassumption
      isplitl [Z] <;> iassumption
    isplitl [D Ds Y Ys]
    · isplitl [D Ds]
      · isplitl [D] <;> iassumption
      isplitl [Y] <;> iassumption
    iexact HO

end Many

end Cert.Ring

end
-- ==== Proof.Body.lean ====
/-
# The body on one device

First the shares: an own operand is kept at half a share for the first pass while its halves are lent
to the copies towards both neighbours; of a landed operand the half that is sent on is lent at half a
share. Then the whole body, step by step.
-/
module

public import proofs.«01_k».proof.Proof.Steps

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Lending halves -/

section Lend

variable (c : Dev nD)

/-- A left operand at a share is its halves in either order. -/
theorem halvesX' (q : PosShare TreeShare) (m : MemX) (X : ArrX F) : ∀ h : Fin 2, (has c m q X : sProp 𝕄)
    ⊣⊢ iprop(has c (halfX m h) q (fun j => X ((rX h).emb j)) ∗ has c (halfX m (1 - h)) q (fun j => X ((rX (1 - h)).emb j)))
  | 0 => halvesX c q m X
  | 1 => ⟨(halvesX c q m X).1.trans sep_comm.1, sep_comm.1.trans (halvesX c q m X).2⟩
/-- A right operand at a share is its halves in either order. -/
theorem halvesW' (q : PosShare TreeShare) (m : MemW) (W : ArrW F) : ∀ h : Fin 2, (has c m q W : sProp 𝕄)
    ⊣⊢ iprop(has c (halfW m h) q (fun j => W ((rW h).emb j)) ∗ has c (halfW m (1 - h)) q (fun j => W ((rW (1 - h)).emb j)))
  | 0 => halvesW c q m W
  | 1 => ⟨(halvesW c q m W).1.trans sep_comm.1, sep_comm.1.trans (halvesW c q m W).2⟩

/-- An own left operand, both halves lent twice, the rest kept. -/
theorem lendX (m : MemX) (X : ArrX F) : (has c m fullShare X : sProp 𝕄) ⊣⊢ iprop(has c m fullShare.left X
    ∗ (has c (halfX m 0) fullShare.right.left (fun j => X ((rX 0).emb j)) ∗ has c (halfX m 1) fullShare.right.left (fun j => X ((rX 1).emb j)))
    ∗ (has c (halfX m 0) fullShare.right.right (fun j => X ((rX 0).emb j)) ∗ has c (halfX m 1) fullShare.right.right (fun j => X ((rX 1).emb j)))) :=
  ⟨(owns_halves (c : Thread nD τ) m fullShare X).1.trans (sep_mono_right ((owns_halves (c : Thread nD τ) m fullShare.right X).1.trans
      (BIClass.sep_mono (halvesX c _ m X).1 (halvesX c _ m X).1))),
    (sep_mono_right ((BIClass.sep_mono (halvesX c _ m X).2 (halvesX c _ m X).2).trans (owns_halves (c : Thread nD τ) m fullShare.right X).2)).trans
      (owns_halves (c : Thread nD τ) m fullShare X).2⟩
/-- An own right operand, both halves lent twice, the rest kept. -/
theorem lendW (m : MemW) (W : ArrW F) : (has c m fullShare W : sProp 𝕄) ⊣⊢ iprop(has c m fullShare.left W
    ∗ (has c (halfW m 0) fullShare.right.left (fun j => W ((rW 0).emb j)) ∗ has c (halfW m 1) fullShare.right.left (fun j => W ((rW 1).emb j)))
    ∗ (has c (halfW m 0) fullShare.right.right (fun j => W ((rW 0).emb j)) ∗ has c (halfW m 1) fullShare.right.right (fun j => W ((rW 1).emb j)))) :=
  ⟨(owns_halves (c : Thread nD τ) m fullShare W).1.trans (sep_mono_right ((owns_halves (c : Thread nD τ) m fullShare.right W).1.trans
      (BIClass.sep_mono (halvesW c _ m W).1 (halvesW c _ m W).1))),
    (sep_mono_right ((BIClass.sep_mono (halvesW c _ m W).2 (halvesW c _ m W).2).trans (owns_halves (c : Thread nD τ) m fullShare.right W).2)).trans
      (owns_halves (c : Thread nD τ) m fullShare W).2⟩

/-- A landed left operand, one half lent on: whole at the share kept. -/
theorem wholeX (m : MemX) (X : ArrX F) (h : Fin 2) :
    (iprop(has c (halfX m h) fullShare.left (fun j => X ((rX h).emb j)) ∗ has c (halfX m (1 - h)) fullShare (fun j => X ((rX (1 - h)).emb j))) : sProp 𝕄)
      ⊢ iprop(has c m fullShare.left X ∗ has c (halfX m (1 - h)) fullShare.right (fun j => X ((rX (1 - h)).emb j))) := by
  iintro ⟨H1, H2⟩
  ihave H2 := (owns_halves (c : Thread nD τ) (halfX m (1 - h)) fullShare _).1 $$ H2
  icases H2 with ⟨H2, H3⟩
  isplitl [H1 H2]
  · iapply (halvesX' c fullShare.left m X h).2
    isplitl [H1] <;> iassumption
  iexact H3
/-- A landed right operand, one half lent on: whole at the share kept. -/
theorem wholeW (m : MemW) (W : ArrW F) (h : Fin 2) :
    (iprop(has c (halfW m h) fullShare.left (fun j => W ((rW h).emb j)) ∗ has c (halfW m (1 - h)) fullShare (fun j => W ((rW (1 - h)).emb j))) : sProp 𝕄)
      ⊢ iprop(has c m fullShare.left W ∗ has c (halfW m (1 - h)) fullShare.right (fun j => W ((rW (1 - h)).emb j))) := by
  iintro ⟨H1, H2⟩
  ihave H2 := (owns_halves (c : Thread nD τ) (halfW m (1 - h)) fullShare _).1 $$ H2
  icases H2 with ⟨H2, H3⟩
  isplitl [H1 H2]
  · iapply (halvesW' c fullShare.left m W h).2
    isplitl [H1] <;> iassumption
  iexact H3

/-- The lent half back, a landed left operand is whole again. -/
theorem backX (m : MemX) (X : ArrX F) (h : Fin 2) :
    (iprop(has c m fullShare.left X ∗ has c (halfX m (1 - h)) fullShare.right (fun j => X ((rX (1 - h)).emb j))
        ∗ has c (halfX m h) fullShare.right (fun j => X ((rX h).emb j))) : sProp 𝕄) ⊢ has c m fullShare X :=
  (sep_mono_right (sep_comm.1.trans (halvesX' c fullShare.right m X h).2)).trans (owns_halves (c : Thread nD τ) m fullShare X).2
/-- The lent half back, a landed right operand is whole again. -/
theorem backW (m : MemW) (W : ArrW F) (h : Fin 2) :
    (iprop(has c m fullShare.left W ∗ has c (halfW m (1 - h)) fullShare.right (fun j => W ((rW (1 - h)).emb j))
        ∗ has c (halfW m h) fullShare.right (fun j => W ((rW h).emb j))) : sProp 𝕄) ⊢ has c m fullShare W :=
  (sep_mono_right (sep_comm.1.trans (halvesW' c fullShare.right m W h).2)).trans (owns_halves (c : Thread nD τ) m fullShare W).2

end Lend

/-! ## The copies' buffers, by name -/

section Names

variable (X : Dev nD → ArrX F) (W : Dev nD → ArrW F) (c : Dev nD)

/-- The device two steps away. -/
abbrev opp : Dev nD := prv (prv c)

/-- The share of a copy's source that is not lent. -/
def kept (i : Fin 12) : sProp 𝕄 := has c (cp i).src fullShare.left (data X W i c)
/-- The share of a copy's filled destination set aside. -/
def spare (i : Fin 12) : sProp 𝕄 := has c (cp i).dst fullShare.right (data X W i (origin i c))

/-- The own left operand is the share kept and the sources of its four copies. -/
theorem own_x : (has c xM fullShare (X c) : sProp 𝕄)
    ⊣⊢ iprop(has c xM fullShare.left (X c) ∗ (source X W 0 c ∗ source X W 1 c) ∗ (source X W 4 c ∗ source X W 5 c)) := lendX c xM (X c)
/-- The own right operand is the share kept and the sources of its four copies. -/
theorem own_w : (has c wM fullShare (W c) : sProp 𝕄)
    ⊣⊢ iprop(has c wM fullShare.left (W c) ∗ (source X W 2 c ∗ source X W 3 c) ∗ (source X W 6 c ∗ source X W 7 c)) := lendW c wM (W c)

/-- What copy 0 filled is the source of copy 8 and a share kept. -/
theorem lend8 : filled X W 0 c ⊢ iprop(kept X W c 8 ∗ source X W 8 c) := (owns_halves (c : Thread nD τ) _ _ _).1
/-- What copy 2 filled is the source of copy 9 and a share kept. -/
theorem lend9 : filled X W 2 c ⊢ iprop(kept X W c 9 ∗ source X W 9 c) := (owns_halves (c : Thread nD τ) _ _ _).1
/-- What copy 5 filled is the source of copy 10 and a share kept. -/
theorem lend10 : filled X W 5 c ⊢ iprop(kept X W c 10 ∗ source X W 10 c) := (owns_halves (c : Thread nD τ) _ _ _).1
/-- What copy 7 filled is the source of copy 11 and a share kept. -/
theorem lend11 : filled X W 7 c ⊢ iprop(kept X W c 11 ∗ source X W 11 c) := (owns_halves (c : Thread nD τ) _ _ _).1

/-- The left neighbour's left operand from its two halves, a share of each. -/
theorem whole_xL : iprop(kept X W c 8 ∗ filled X W 1 c) ⊢ iprop(has c xL fullShare.left (X (prv c)) ∗ spare X W c 1) := wholeX c xL (X (prv c)) 0
/-- The left neighbour's right operand from its two halves, a share of each. -/
theorem whole_wL : iprop(kept X W c 9 ∗ filled X W 3 c) ⊢ iprop(has c wL fullShare.left (W (prv c)) ∗ spare X W c 3) := wholeW c wL (W (prv c)) 0
/-- The right neighbour's left operand from its two halves, a share of each. -/
theorem whole_xR : iprop(kept X W c 10 ∗ filled X W 4 c) ⊢ iprop(has c xR fullShare.left (X (nxt c)) ∗ spare X W c 4) := wholeX c xR (X (nxt c)) 1
/-- The right neighbour's right operand from its two halves, a share of each. -/
theorem whole_wR : iprop(kept X W c 11 ∗ filled X W 6 c) ⊢ iprop(has c wR fullShare.left (W (nxt c)) ∗ spare X W c 6) := wholeW c wR (W (nxt c)) 1

/-- The left neighbour's left operand whole again, once copy 8 is sent. -/
theorem back_xL : iprop(has c xL fullShare.left (X (prv c)) ∗ spare X W c 1 ∗ source X W 8 c) ⊢ has c xL fullShare (X (prv c)) := backX c xL (X (prv c)) 0
/-- The left neighbour's right operand whole again, once copy 9 is sent. -/
theorem back_wL : iprop(has c wL fullShare.left (W (prv c)) ∗ spare X W c 3 ∗ source X W 9 c) ⊢ has c wL fullShare (W (prv c)) := backW c wL (W (prv c)) 0
/-- The right neighbour's left operand whole again, once copy 10 is sent. -/
theorem back_xR : iprop(has c xR fullShare.left (X (nxt c)) ∗ spare X W c 4 ∗ source X W 10 c) ⊢ has c xR fullShare (X (nxt c)) := backX c xR (X (nxt c)) 1
/-- The right neighbour's right operand whole again, once copy 11 is sent. -/
theorem back_wR : iprop(has c wR fullShare.left (W (nxt c)) ∗ spare X W c 6 ∗ source X W 11 c) ⊢ has c wR fullShare (W (nxt c)) := backW c wR (W (nxt c)) 1

/-- The opposite device's left operand from the halves that the neighbours passed on. -/
theorem whole_xD : iprop(filled X W 8 c ∗ filled X W 10 c) ⊢ has c xD fullShare (X (opp c)) := by
  refine BIBase.Entails.trans ?_ (halvesX c fullShare xD (X (opp c))).2
  rw [opp, show filled X W 10 c = has c (halfX xD 1) fullShare (fun j => X (nxt (nxt c)) ((rX 1).emb j)) from rfl, nxt_nxt]
  exact .rfl
/-- The opposite device's right operand from the halves that the neighbours passed on. -/
theorem whole_wD : iprop(filled X W 9 c ∗ filled X W 11 c) ⊢ has c wD fullShare (W (opp c)) := by
  refine BIBase.Entails.trans ?_ (halvesW c fullShare wD (W (opp c))).2
  rw [opp, show filled X W 11 c = has c (halfW wD 1) fullShare (fun j => W (nxt (nxt c)) ((rW 1).emb j)) from rfl, nxt_nxt]
  exact .rfl

end Names

/-! ## The run -/

section Run

variable (X : Dev nD → ArrX F) (W : Dev nD → ArrW F) (K : Dev nD × Ks → ℕ) (c : Dev nD) (sx sw : ArrS F)

/-- What device `c` leaves in the output: the four products added in the order the operands arrive, scaled. -/
def outAt : ArrO F :=
  new2 (X (opp c)) (W (opp c)) sx sw
    (new1 (X (nxt c)) (W (nxt c)) (new1 (X (prv c)) (W (prv c)) (new0 (X c) (W c))))

/-- What the body leaves besides the output: the operands as they were, the landing buffers filled, the copies' semaphores at zero. -/
def left : sProp 𝕄 :=
  iprop(has c xM fullShare (X c) ∗ has c wM fullShare (W c) ∗ has c sxM fullShare sx ∗ has c swM fullShare sw
    ∗ has c xL fullShare (X (prv c)) ∗ has c xR fullShare (X (nxt c)) ∗ has c xD fullShare (X (opp c))
    ∗ has c wL fullShare (W (prv c)) ∗ has c wR fullShare (W (nxt c)) ∗ has c wD fullShare (W (opp c))
    ∗ (bigSep Finset.univ fun i => semVal (sCell i c) 0) ∗ (bigSep Finset.univ fun i => semVal (rCell i c) 0) ∗ owing c 0)

/-- All copies in the groups they are sent in. -/
theorem by_send (Φ : Fin 12 → sProp 𝕄) : bigSep Finset.univ Φ
    ⊣⊢ iprop(each Φ [0, 1, 2, 3, 4, 5, 6, 7] ∗ each Φ [8, 9] ∗ each Φ [10, 11]) :=
  have h := each_all Φ ([0, 1, 2, 3, 4, 5, 6, 7] ++ ([8, 9] ++ [10, 11])) (by decide) (by decide)
  have h₁ := each_append Φ [0, 1, 2, 3, 4, 5, 6, 7] ([8, 9] ++ [10, 11])
  have h₂ := each_append Φ [8, 9] [10, 11]
  ⟨h.1.trans (h₁.1.trans (sep_mono_right h₂.1)), (sep_mono_right h₂.2).trans (h₁.2.trans h.2)⟩
/-- All copies in the groups they are waited for in. -/
theorem by_sent (Φ : Fin 12 → sProp 𝕄) : bigSep Finset.univ Φ
    ⊣⊢ iprop(each Φ [0, 1, 2, 3, 4, 5, 6, 7] ∗ each Φ [8, 9, 10, 11]) :=
  have h := each_all Φ ([0, 1, 2, 3, 4, 5, 6, 7] ++ [8, 9, 10, 11]) (by decide) (by decide)
  have h₁ := each_append Φ [0, 1, 2, 3, 4, 5, 6, 7] [8, 9, 10, 11]
  ⟨h.1.trans h₁.1, h₁.2.trans h.2⟩
/-- All copies in the groups they are received in. -/
theorem by_receive (Φ : Fin 12 → sProp 𝕄) : bigSep Finset.univ Φ
    ⊣⊢ iprop(each Φ [0, 2] ∗ each Φ [5, 7] ∗ each Φ [1, 3, 4, 6] ∗ each Φ [8, 9, 10, 11]) :=
  have h := each_all Φ ([0, 2] ++ ([5, 7] ++ ([1, 3, 4, 6] ++ [8, 9, 10, 11]))) (by decide) (by decide)
  have h₁ := each_append Φ [0, 2] ([5, 7] ++ ([1, 3, 4, 6] ++ [8, 9, 10, 11]))
  have h₂ := each_append Φ [5, 7] ([1, 3, 4, 6] ++ [8, 9, 10, 11])
  have h₃ := each_append Φ [1, 3, 4, 6] [8, 9, 10, 11]
  ⟨h.1.trans (h₁.1.trans (sep_mono_right (h₂.1.trans (sep_mono_right h₃.1)))),
    (sep_mono_right ((sep_mono_right h₃.2).trans h₂.2)).trans (h₁.2.trans h.2)⟩

/-- Two assertions as a list. -/
theorem each₂ (Φ : Fin 12 → sProp 𝕄) (i j : Fin 12) : iprop(Φ i ∗ Φ j) ⊣⊢ each Φ [i, j] :=
  ⟨sep_mono_right Laws.sep_emp.2, sep_mono_right Laws.sep_emp.1⟩
/-- Four assertions as a list. -/
theorem each₄ (Φ : Fin 12 → sProp 𝕄) (i j k l : Fin 12) : iprop(Φ i ∗ Φ j ∗ Φ k ∗ Φ l) ⊣⊢ each Φ [i, j, k, l] :=
  ⟨sep_mono_right (sep_mono_right (each₂ Φ k l).1), sep_mono_right (sep_mono_right (each₂ Φ k l).2)⟩

/-- The own operands are the shares kept and the sources of the first eight copies. -/
theorem own : iprop(has c xM fullShare (X c) ∗ has c wM fullShare (W c))
    ⊣⊢ iprop((has c xM fullShare.left (X c) ∗ has c wM fullShare.left (W c)) ∗ each (fun i => source X W i c) [0, 1, 2, 3, 4, 5, 6, 7]) := by
  constructor
  · iintro ⟨Hx, Hw⟩
    ihave Hx := (own_x X W c).1 $$ Hx
    icases Hx with ⟨Hx, ⟨C0, C1⟩, ⟨C4, C5⟩⟩
    ihave Hw := (own_w X W c).1 $$ Hw
    icases Hw with ⟨Hw, ⟨C2, C3⟩, ⟨C6, C7⟩⟩
    isplitl [Hx Hw]
    · isplitl [Hx] <;> iassumption
    iapply (each_append (fun i => source X W i c) [0, 1, 2, 3] [4, 5, 6, 7]).2
    isplitl [C0 C1 C2 C3]
    · iapply (each₄ (fun i => source X W i c) 0 1 2 3).1
      isplitl [C0]; · iexact C0
      isplitl [C1]; · iexact C1
      isplitl [C2] <;> iassumption
    · iapply (each₄ (fun i => source X W i c) 4 5 6 7).1
      isplitl [C4]; · iexact C4
      isplitl [C5]; · iexact C5
      isplitl [C6] <;> iassumption
  · iintro ⟨⟨Hx, Hw⟩, C⟩
    ihave C := (show each (fun i => source X W i c) [0, 1, 2, 3, 4, 5, 6, 7] ⊢ _ from
      (each_append (fun i => source X W i c) [0, 1, 2, 3] [4, 5, 6, 7]).1) $$ C
    icases C with ⟨C, C'⟩
    ihave C := (each₄ (fun i => source X W i c) 0 1 2 3).2 $$ C
    ihave C' := (each₄ (fun i => source X W i c) 4 5 6 7).2 $$ C'
    icases C with ⟨C0, C1, C2, C3⟩
    icases C' with ⟨C4, C5, C6, C7⟩
    isplitl [Hx C0 C1 C4 C5]
    · iapply (own_x X W c).2
      isplitl [Hx]; · iexact Hx
      isplitl [C0 C1]
      · isplitl [C0] <;> iassumption
      isplitl [C4] <;> iassumption
    · iapply (own_w X W c).2
      isplitl [Hw]; · iexact Hw
      isplitl [C2 C3]
      · isplitl [C2] <;> iassumption
      isplitl [C6] <;> iassumption

/-- A program that has returned. -/
theorem finish (Q : PUnit.{1} → sProp 𝕄) : Q ⟨⟩ ⊢ WP c (.ret ⟨⟩) Q := by
  unfold WP; rw [wp_ret]; exact fupd_intro

/-- The body after the handshake, its copies in groups. -/
theorem rest_eq : rest (F := F) (fun i => peer i c) =
    sendsP c [0, 1, 2, 3, 4, 5, 6, 7] (pass (blk0 xM wM) (recvsP [0, 2] (sendsP c [8, 9] (recvsP [5, 7] (sendsP c [10, 11]
      (recvsP [1, 3, 4, 6] (sentsP [0, 1, 2, 3, 4, 5, 6, 7] (pass (blk1 xL wL) (pass (blk1 xR wR)
        (bothP [8, 9, 10, 11] (pass (blk2 xD wD) (.ret ⟨⟩)))))))))))) := rfl

set_option maxHeartbeats 4000000 in
/-- The body after the handshake. -/
theorem run_rest (O : ArrO F) (Q : PUnit.{1} → sProp 𝕄) :
    iprop(records X W K ∗ (bigSep Finset.univ fun i => room i (peer i c)) ∗ (bigSep Finset.univ fun i => toSend i c)
        ∗ (bigSep Finset.univ fun i => toReceive i c)
        ∗ (has c xM fullShare (X c) ∗ has c wM fullShare (W c)) ∗ has c sxM fullShare sx ∗ has c swM fullShare sw ∗ has c oM fullShare O
        ∗ owing c (due c allCopies))
      ⊢ iprop((iprop(left X W c sx sw ∗ has c oM fullShare (outAt X W c sx sw)) -∗ Q ⟨⟩) -∗ WP c (rest fun i => peer i c) Q) := by
  iintro ⟨#HR, R, S, V, Hown, Hsx, Hsw, Ho, HO⟩ Hk
  ihave R := (by_send fun i => room i (peer i c)).1 $$ R
  icases R with ⟨Ra, Rb, Rc⟩
  ihave S := (by_send fun i => toSend i c).1 $$ S
  icases S with ⟨Sa, Sb, Sc⟩
  ihave V := (by_receive fun i => toReceive i c).1 $$ V
  icases V with ⟨Va, Vb, Vc, Vd⟩
  ihave Hown := (own X W c).1 $$ Hown
  icases Hown with ⟨⟨Hx, Hw⟩, C⟩
  rw [rest_eq]
  iapply (sends_step X W K c [0, 1, 2, 3, 4, 5, 6, 7] [8, 9, 10, 11] _ Q) $$ [Sa C Ra HO]
  · isplitr; · iexact HR
    isplitl [Sa]; · iexact Sa
    isplitl [C]; · iexact C
    isplitl [Ra]; · iexact Ra
    iexact HO
  iintro ⟨Sa, HO⟩
  -- the own product
  iapply (pass0 c (X c) (W c) O _ Q) $$ [Hx Hw Ho]
  · isplitl [Hx]; · iexact Hx
    isplitl [Hw] <;> iassumption
  iintro ⟨Hx, Hw, Ho⟩
  -- the left neighbour's first halves are sent on
  iapply (recvs_step X W K c [0, 2] [8, 9, 10, 11] (by decide) _ Q) $$ [Va HO]
  · isplitr; · iexact HR
    isplitl [Va] <;> iassumption
  iintro ⟨D, Za, HO⟩
  ihave D := (each₂ (fun i => filled X W i c) 0 2).2 $$ D
  icases D with ⟨D0, D2⟩
  ihave D0 := (lend8 X W c) $$ D0
  icases D0 with ⟨D0, C8⟩
  ihave D2 := (lend9 X W c) $$ D2
  icases D2 with ⟨D2, C9⟩
  iapply (sends_step X W K c [8, 9] [10, 11] _ Q) $$ [Sb C8 C9 Rb HO]
  · isplitr; · iexact HR
    isplitl [Sb]; · iexact Sb
    isplitl [C8 C9]
    · iapply (each₂ (fun i => source X W i c) 8 9).1
      isplitl [C8] <;> iassumption
    isplitl [Rb]; · iexact Rb
    iexact HO
  iintro ⟨Sb, HO⟩
  -- the right neighbour's second halves are sent on
  iapply (recvs_step X W K c [5, 7] [10, 11] (by decide) _ Q) $$ [Vb HO]
  · isplitr; · iexact HR
    isplitl [Vb] <;> iassumption
  iintro ⟨D, Zb, HO⟩
  ihave D := (each₂ (fun i => filled X W i c) 5 7).2 $$ D
  icases D with ⟨D5, D7⟩
  ihave D5 := (lend10 X W c) $$ D5
  icases D5 with ⟨D5, C10⟩
  ihave D7 := (lend11 X W c) $$ D7
  icases D7 with ⟨D7, C11⟩
  iapply (sends_step X W K c [10, 11] [] _ Q) $$ [Sc C10 C11 Rc HO]
  · isplitr; · iexact HR
    isplitl [Sc]; · iexact Sc
    isplitl [C10 C11]
    · iapply (each₂ (fun i => source X W i c) 10 11).1
      isplitl [C10] <;> iassumption
    isplitl [Rc]; · iexact Rc
    iexact HO
  iintro ⟨Sc, HO⟩
  -- the neighbours' other halves arrive, the own operands come back
  iapply (recvs_step X W K c [1, 3, 4, 6] [] (by decide) _ Q) $$ [Vc HO]
  · isplitr; · iexact HR
    isplitl [Vc] <;> iassumption
  iintro ⟨D, Zc, HO⟩
  ihave D := (each₄ (fun i => filled X W i c) 1 3 4 6).2 $$ D
  icases D with ⟨D1, D3, D4, D6⟩
  iapply (sents_step X W K c [0, 1, 2, 3, 4, 5, 6, 7] _ Q) $$ [Sa HO]
  · isplitr; · iexact HR
    isplitl [Sa] <;> iassumption
  iintro ⟨C, Ya, HO⟩
  ihave Hown := (own X W c).2 $$ [Hx Hw C]
  · isplitl [Hx Hw]
    · isplitl [Hx] <;> iassumption
    iexact C
  icases Hown with ⟨Hx, Hw⟩
  -- the neighbours' products
  ihave HL := (whole_xL X W c) $$ [D0 D1]
  · isplitl [D0] <;> iassumption
  icases HL with ⟨HxL, P1⟩
  ihave HL := (whole_wL X W c) $$ [D2 D3]
  · isplitl [D2] <;> iassumption
  icases HL with ⟨HwL, P3⟩
  ihave HL := (whole_xR X W c) $$ [D5 D4]
  · isplitl [D5] <;> iassumption
  icases HL with ⟨HxR, P4⟩
  ihave HL := (whole_wR X W c) $$ [D7 D6]
  · isplitl [D7] <;> iassumption
  icases HL with ⟨HwR, P6⟩
  iapply (pass1 c (X (prv c)) (W (prv c)) _ _ Q) $$ [HxL HwL Ho]
  · isplitl [HxL]; · iexact HxL
    isplitl [HwL]; · iexact HwL
    iexact Ho
  iintro ⟨HxL, HwL, Ho⟩
  iapply (pass1 c (X (nxt c)) (W (nxt c)) _ _ Q) $$ [HxR HwR Ho]
  · isplitl [HxR]; · iexact HxR
    isplitl [HwR]; · iexact HwR
    iexact Ho
  iintro ⟨HxR, HwR, Ho⟩
  -- the opposite device's halves arrive, the landed operands come back
  ihave Sd := (each_append (fun i => sending i c) [8, 9] [10, 11]).2 $$ [Sb Sc]
  · isplitl [Sb] <;> iassumption
  iapply (both_step X W K c [8, 9, 10, 11] _ Q) $$ [Sd Vd HO]
  · isplitr; · iexact HR
    isplitl [Sd]; · iexact Sd
    isplitl [Vd] <;> iassumption
  iintro ⟨⟨C, Yb⟩, ⟨D, Zd⟩, HO⟩
  ihave C := (each₄ (fun i => source X W i c) 8 9 10 11).2 $$ C
  icases C with ⟨C8, C9, C10, C11⟩
  ihave D := (each₄ (fun i => filled X W i c) 8 9 10 11).2 $$ D
  icases D with ⟨D8, D9, D10, D11⟩
  ihave HxD := (whole_xD X W c) $$ [D8 D10]
  · isplitl [D8] <;> iassumption
  ihave HwD := (whole_wD X W c) $$ [D9 D11]
  · isplitl [D9] <;> iassumption
  iapply (pass2 c (X (opp c)) (W (opp c)) sx sw _ _ Q) $$ [HxD HwD Hsx Hsw Ho]
  · isplitl [HxD]; · iexact HxD
    isplitl [HwD]; · iexact HwD
    isplitl [Hsx]; · iexact Hsx
    isplitl [Hsw]; · iexact Hsw
    iexact Ho
  iintro ⟨HxD, HwD, Hsx, Hsw, Ho⟩
  iapply (finish c Q)
  iapply Hk
  isplitr [Ho]
  · unfold left
    isplitl [Hx]; · iexact Hx
    isplitl [Hw]; · iexact Hw
    isplitl [Hsx]; · iexact Hsx
    isplitl [Hsw]; · iexact Hsw
    isplitl [HxL P1 C8]
    · iapply (back_xL X W c)
      isplitl [HxL]; · iexact HxL
      isplitl [P1] <;> iassumption
    isplitl [HxR P4 C10]
    · iapply (back_xR X W c)
      isplitl [HxR]; · iexact HxR
      isplitl [P4] <;> iassumption
    isplitl [HxD]; · iexact HxD
    isplitl [HwL P3 C9]
    · iapply (back_wL X W c)
      isplitl [HwL]; · iexact HwL
      isplitl [P3] <;> iassumption
    isplitl [HwR P6 C11]
    · iapply (back_wR X W c)
      isplitl [HwR]; · iexact HwR
      isplitl [P6] <;> iassumption
    isplitl [HwD]; · iexact HwD
    isplitl [Ya Yb]
    · iapply (by_sent fun i => semVal (sCell i c) 0).2
      isplitl [Ya] <;> iassumption
    isplitl [Za Zb Zc Zd]
    · iapply (by_receive fun i => semVal (rCell i c) 0).2
      isplitl [Za]; · iexact Za
      isplitl [Zb]; · iexact Zb
      isplitl [Zc] <;> iassumption
    iexact HO
  iexact Ho

/-- The landing buffers, holding anything. -/
def landing : sProp 𝕄 :=
  iprop((∃ Y, has c xL fullShare Y) ∗ (∃ Y, has c xR fullShare Y) ∗ (∃ Y, has c xD fullShare Y)
    ∗ (∃ Y, has c wL fullShare Y) ∗ (∃ Y, has c wR fullShare Y) ∗ (∃ Y, has c wD fullShare Y))

/-- The landing buffer of a left operand is the destinations of two copies. -/
theorem roomsX (m : MemX) : iprop(∃ Y, has c m fullShare Y)
    ⊢ (iprop((∃ Y, has c (halfX m 0) fullShare Y) ∗ ∃ Y, has c (halfX m 1) fullShare Y) : sProp 𝕄) := by
  iintro ⟨%Y, H⟩
  ihave H := (halvesX c fullShare m Y).1 $$ H
  icases H with ⟨H, H'⟩
  isplitl [H]
  · iexists _; iexact H
  · iexists _; iexact H'
/-- The landing buffer of a right operand is the destinations of two copies. -/
theorem roomsW (m : MemW) : iprop(∃ Y, has c m fullShare Y)
    ⊢ (iprop((∃ Y, has c (halfW m 0) fullShare Y) ∗ ∃ Y, has c (halfW m 1) fullShare Y) : sProp 𝕄) := by
  iintro ⟨%Y, H⟩
  ihave H := (halvesW c fullShare m Y).1 $$ H
  icases H with ⟨H, H'⟩
  isplitl [H]
  · iexists _; iexact H
  · iexists _; iexact H'

/-- The landing buffers are the destinations of the twelve copies. -/
theorem rooms : landing c ⊢ (bigSep Finset.univ fun i => room i c : sProp 𝕄) := by
  unfold landing
  iintro ⟨L, R, D, L', R', D'⟩
  ihave L := (show _ ⊢ (iprop(room 0 c ∗ room 1 c) : sProp 𝕄) from roomsX c xL) $$ L
  ihave R := (show _ ⊢ (iprop(room 4 c ∗ room 5 c) : sProp 𝕄) from roomsX c xR) $$ R
  ihave D := (show _ ⊢ (iprop(room 8 c ∗ room 10 c) : sProp 𝕄) from roomsX c xD) $$ D
  ihave L' := (show _ ⊢ (iprop(room 2 c ∗ room 3 c) : sProp 𝕄) from roomsW c wL) $$ L'
  ihave R' := (show _ ⊢ (iprop(room 6 c ∗ room 7 c) : sProp 𝕄) from roomsW c wR) $$ R'
  ihave D' := (show _ ⊢ (iprop(room 9 c ∗ room 11 c) : sProp 𝕄) from roomsW c wD) $$ D'
  icases L with ⟨R0, R1⟩
  icases R with ⟨R4, R5⟩
  icases D with ⟨R8, R10⟩
  icases L' with ⟨R2, R3⟩
  icases R' with ⟨R6, R7⟩
  icases D' with ⟨R9, R11⟩
  iapply (by_receive fun i => room i c).2
  isplitl [R0 R2]
  · iapply (each₂ (fun i => room i c) 0 2).1
    isplitl [R0] <;> iassumption
  isplitl [R5 R7]
  · iapply (each₂ (fun i => room i c) 5 7).1
    isplitl [R5] <;> iassumption
  isplitl [R1 R3 R4 R6]
  · iapply (each₄ (fun i => room i c) 1 3 4 6).1
    isplitl [R1]; · iexact R1
    isplitl [R3]; · iexact R3
    isplitl [R4] <;> iassumption
  · iapply (each₄ (fun i => room i c) 8 9 10 11).1
    isplitl [R8]; · iexact R8
    isplitl [R9]; · iexact R9
    isplitl [R10] <;> iassumption

/-- What the protocol gives a device at its start. -/
def dealt : sProp 𝕄 :=
  iprop(toGreet c ∗ (bigSep Finset.univ fun i => toSend i c) ∗ (bigSep Finset.univ fun i => toReceive i c))

/-- The whole body. -/
theorem run_body (O : ArrO F) (Q : PUnit.{1} → sProp 𝕄) :
    iprop(records X W K ∗ dealt c ∗ landing c
        ∗ (has c xM fullShare (X c) ∗ has c wM fullShare (W c)) ∗ has c sxM fullShare sx ∗ has c swM fullShare sw ∗ has c oM fullShare O
        ∗ owing c (O₀ c))
      ⊢ iprop((iprop(semVal (bCell c) 0 ∗ left X W c sx sw ∗ has c oM fullShare (outAt X W c sx sw)) -∗ Q ⟨⟩)
          -∗ WP c (bodyAt (prv c) (nxt c) fun i => peer i c) Q) := by
  unfold dealt
  iintro ⟨#HR, ⟨HG, S, V⟩, HL, Hown, Hsx, Hsw, Ho, HO⟩ Hk
  ihave R := (rooms c) $$ HL
  iapply (greet_step X W K c (rest fun i => peer i c) Q) $$ [HG R HO]
  · isplitr; · iexact HR
    isplitl [HG]; · iexact HG
    isplitl [R] <;> iassumption
  iintro ⟨R, HB, HO⟩
  iapply (run_rest X W K c sx sw O Q) $$ [R S V Hown Hsx Hsw Ho HO]
  · isplitr; · iexact HR
    isplitl [R]; · iexact R
    isplitl [S]; · iexact S
    isplitl [V]; · iexact V
    isplitl [Hown]; · iexact Hown
    isplitl [Hsx]; · iexact Hsx
    isplitl [Hsw]; · iexact Hsw
    isplitl [Ho] <;> iassumption
  iintro ⟨HL, Ho⟩
  iapply Hk
  isplitl [HB]; · iexact HB
  isplitl [HL] <;> iassumption

end Run

end Cert.Ring

end
-- ==== Proof.Obligation.lean ====
/-
# The body in its pipeline

What the launch's data are: the operands as the memory holds them, the state before and after the
one point of the grid, what the body writes. The body meets the pipeline's obligation.
-/
module

public import proofs.«01_k».proof.Proof.Body
public import proofs.«01_k».proof.Proof.Gen.KernelIdeal.Points

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The state at the start: the memory, every counter at zero. -/
abbrev s₀ : MemSt nD τ sig (Elt F) := ⟨m, fun _ => 0, ρ⟩

/-! ## The operands -/

/-- Device `c`'s shard of the left operand. -/
def xAt (c : Dev nD) : ArrX F := (win0_0.blk (0 : Fin 1)).view.read (Elt F) (m ((c : Thread nD τ).loc main_arg0))
/-- Device `c`'s shard of the right operand. -/
def wAt (c : Dev nD) : ArrW F := (win0_1.blk (0 : Fin 1)).view.read (Elt F) (m ((c : Thread nD τ).loc main_arg1))
/-- The left operand's scale on device `c`. -/
def sxAt (c : Dev nD) : ArrS F := (win0_2.blk (0 : Fin 1)).view.read (Elt F) (m ((c : Thread nD τ).loc main_arg2))
/-- The right operand's scale on device `c`. -/
def swAt (c : Dev nD) : ArrS F := (win0_3.blk (0 : Fin 1)).view.read (Elt F) (m ((c : Thread nD τ).loc main_arg3))
/-- What the body writes on device `c`. -/
def resAt (c : Dev nD) : ArrO F := outAt (xAt m) (wAt m) c (sxAt m c) (swAt m c)

/-! ## The states -/

/-- What device `c` starts from. -/
def start (c : Dev nD) : sProp 𝕄 := iprop((∃ K, records (xAt m) (wAt m) K) ∗ dealt c)
/-- What it holds before the body besides its staging buffers. -/
def before₀ (c : Dev nD) : sProp 𝕄 := iprop(start m c ∗ landing c)
/-- What it holds after the body besides its staging buffers: every counter is zero again. -/
def after₀ (c : Dev nD) : sProp 𝕄 :=
  iprop(landing c ∗ semVal (bCell c) 0 ∗ (bigSep Finset.univ fun i => semVal (sCell i c) 0)
    ∗ bigSep Finset.univ fun i => semVal (rCell i c) 0)

/-- The launch's data. -/
def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => wAt m c
    | ⟨2, _⟩ => sxAt m c
    | ⟨3, _⟩ => swAt m c
    | ⟨4, _⟩ => resAt m c
  Φ t := match t with
    | ⟨0, _⟩ => before₀ m c
    | ⟨_ + 1, _⟩ => after₀ c
  q _ := fullShare
  owed t := match t with
    | ⟨0, _⟩ => O₀ c
    | ⟨_ + 1, _⟩ => 0

/-! ## The obligation -/

/-- The printed body runs as the short program does. -/
theorem run_printed (c : Dev nD) (Q : PUnit.{1} → sProp 𝕄) :
    WP c (bodyAt (prv c) (nxt c) fun i => peer i c) Q ⊢ WP c printedBody Q := by
  unfold WP; rw [body_eq, wp_deviceId]

variable (c : Dev nD)

/-- An array whatever the staging buffer held. -/
theorem found {s : Shape} {e : EltTy} {sp : Space} (b : Memref sig .tc sp s e) (X : s.Idx → Elt F e)
    (Y : (s.Idx → Elt F e) → s.Idx → Elt F e) (h : ∀ d, Y d = X) :
    iprop(∃ d, has c b fullShare (Y d)) ⊢ (has c b fullShare X : sProp 𝕄) := by
  iintro ⟨%d, H⟩; rw [h]; iexact H

/-- What a device owes before the body. -/
theorem owed_start : (dats m 0 c).owesAt () t0_0.castSucc ⊢ (owing c (O₀ c) : sProp 𝕄) := by
  unfold Dat.owesAt Pipeline.owesWithin owing
  iintro ⟨%U, %hU, H⟩
  iexists U; iexact H
/-- Nothing is owed after the body. -/
theorem owed_end : owing c 0 ⊢ ((dats m 0 c).owesAt () t0_0.succ : sProp 𝕄) := by
  unfold Dat.owesAt Pipeline.owesWithin owing
  iintro ⟨%U, H⟩
  iexists U
  isplitr; · ipureintro; exact fun _ _ => Or.inl trivial
  iexact H

/-- The body finds the left operand in its staging buffer. -/
theorem before_0 (d) : (dats m 0 c).before (0 : Fin 5) t0_0 d = xAt m c := by
  unfold Dat.before; rw [if_pos (fetch0_0 t0_0)]; rfl
/-- The body finds the right operand in its staging buffer. -/
theorem before_1 (d) : (dats m 0 c).before (1 : Fin 5) t0_0 d = wAt m c := by
  unfold Dat.before; rw [if_pos (fetch0_1 t0_0)]; rfl
/-- The body finds the first scale in its staging buffer. -/
theorem before_2 (d) : (dats m 0 c).before (2 : Fin 5) t0_0 d = sxAt m c := by
  unfold Dat.before; rw [if_pos (fetch0_2 t0_0)]; rfl
/-- The body finds the second scale in its staging buffer. -/
theorem before_3 (d) : (dats m 0 c).before (3 : Fin 5) t0_0 d = swAt m c := by
  unfold Dat.before; rw [if_pos (fetch0_3 t0_0)]; rfl

/-- What the body is given. -/
def given : sProp 𝕄 :=
  iprop(before₀ m c ∗ (dats m 0 c).owesAt () t0_0.castSucc
    ∗ (∃ d, has c xM fullShare ((dats m 0 c).before (0 : Fin 5) t0_0 d))
    ∗ (∃ d, has c wM fullShare ((dats m 0 c).before (1 : Fin 5) t0_0 d))
    ∗ (∃ d, has c sxM fullShare ((dats m 0 c).before (2 : Fin 5) t0_0 d))
    ∗ (∃ d, has c swM fullShare ((dats m 0 c).before (3 : Fin 5) t0_0 d))
    ∗ (∃ d, has c oM fullShare ((dats m 0 c).before (4 : Fin 5) t0_0 d)))
/-- What the body gives back. -/
def giving : sProp 𝕄 :=
  iprop(after₀ c ∗ (dats m 0 c).owesAt () t0_0.succ
    ∗ has c xM fullShare (xAt m c) ∗ has c wM fullShare (wAt m c) ∗ has c sxM fullShare (sxAt m c)
    ∗ has c swM fullShare (swAt m c) ∗ has c oM fullShare (resAt m c))

/-- The printed body turns what it is given into what it gives back. -/
theorem body_sound : given m c ⊢ WP c printedBody fun _ => giving m c := by
  unfold given before₀ start
  iintro ⟨⟨⟨⟨%K, #HR⟩, HD⟩, HL⟩, HO, Hx, Hw, Hsx, Hsw, ⟨%d, Ho⟩⟩
  iapply (run_printed c)
  ihave Hx := (found c xM (xAt m c) _ (before_0 m c)) $$ Hx
  ihave Hw := (found c wM (wAt m c) _ (before_1 m c)) $$ Hw
  ihave Hsx := (found c sxM (sxAt m c) _ (before_2 m c)) $$ Hsx
  ihave Hsw := (found c swM (swAt m c) _ (before_3 m c)) $$ Hsw
  ihave HO := (owed_start m c) $$ HO
  iapply (run_body (xAt m) (wAt m) K c (sxAt m c) (swAt m c) _ fun _ => giving m c) $$ [HD HL HO Hx Hw Hsx Hsw Ho]
  · isplitr; · iexact HR
    isplitl [HD]; · iexact HD
    isplitl [HL]; · iexact HL
    isplitl [Hx Hw]
    · isplitl [Hx] <;> iassumption
    isplitl [Hsx]; · iexact Hsx
    isplitl [Hsw]; · iexact Hsw
    isplitl [Ho] <;> iassumption
  iintro ⟨HB, HL, Ho⟩
  unfold left giving after₀ landing
  icases HL with ⟨Hx, Hw, Hsx, Hsw, L, R, D, L', R', D', HS, HV, HO⟩
  isplitl [HB L R D L' R' D' HS HV]
  · isplitl [L R D L' R' D']
    · isplitl [L]; · iexists _; iexact L
      isplitl [R]; · iexists _; iexact R
      isplitl [D]; · iexists _; iexact D
      isplitl [L']; · iexists _; iexact L'
      isplitl [R']; · iexists _; iexact R'
      iexists _; iexact D'
    isplitl [HB]; · iexact HB
    isplitl [HS] <;> iassumption
  isplitl [HO]
  · iapply (owed_end m c); iexact HO
  isplitl [Hx]; · iexact Hx
  isplitl [Hw]; · iexact Hw
  isplitl [Hsx]; · iexact Hsx
  isplitl [Hsw]; · iexact Hsw
  iexact Ho

set_option maxRecDepth 40000 in
/-- The body meets the pipeline's obligation. -/
theorem body_obligation : BodyObligation (dats (F := F) m 0 c) (defs₀ (F := F)) 𝒱₀ () Set.univ := fun t => by
  rw [show t = t0_0 from fin_N0 t]
  have e : ∀ Φ : Fin cfg0.W → sProp 𝕄, bigSep Finset.univ Φ = _ := bigSep_W0
  rw [e, e]
  refine BIBase.Entails.trans (Q := given m c) (Entails.of_eq ?_) ((body_sound m c).trans (Entails.of_eq ?_))
  · rfl
  · rfl

end Cert.Ring

end
-- ==== Proof.Run.lean ====
/-
# The launch

The cells of all devices are opened at once, every device is dealt the rights it pays with and the
credit it waits with, and the program's run follows: it ends, its arguments as they were, its result
what the body writes, every counter at zero.
-/
module

public import proofs.«01_k».proof.Proof.Obligation
public import Idealize.ShloMosaic.Lib.Pipeline.CollectiveSegs

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## What the launch mints -/

/-- The cells are distinct. -/
theorem kcell_inj : Function.Injective (kcell : Dev nD × Ks → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- The cells of the protocol. -/
def ringCells : Finset (GSem nD τ sig) := Finset.univ.map ⟨kcell, kcell_inj⟩

/-- The duties of a device's own cells: the barrier's two, one of each of the copies' cells. -/
def tokOf (x : Dev nD × (Bool ⊕ Xs)) : GSem nD τ sig × ℕ × Bool :=
  (kcell (x.1, x.2.elim (fun _ => .inl ()) .inr), 0, x.2.elim id fun _ => false)

/-- The duties are distinct. -/
theorem tokOf_inj : Function.Injective tokOf := by
  rintro ⟨c, j⟩ ⟨c', j'⟩ h
  have h0 := kcell_inj (congrArg Prod.fst h)
  have h1 : c = c' := congrArg Prod.fst h0
  have h2 := congrArg Prod.snd h0
  have h3 := congrArg (fun x : GSem nD τ sig × ℕ × Bool => x.2.2) h
  subst h1
  rcases j with b | x <;> rcases j' with b' | x'
  · exact congrArg (fun d => (c, Sum.inl d)) (show b = b' from h3)
  · cases h2
  · cases h2
  · exact congrArg (fun d => (c, Sum.inr d)) (Sum.inr.inj (show (Sum.inr x : Ks) = .inr x' from h2))

/-- All duties. -/
def ringToks : Finset (GSem nD τ sig × ℕ × Bool) := Finset.univ.map ⟨tokOf, tokOf_inj⟩

/-- The ghost state at launch. -/
def u₀ : UU :=
  (initOf (Pipeline.cells cfgs cellOf_inj) (Pipeline.launchToks cfgs cellOf_inj), initOf ringCells ringToks)

section Mint

variable (X : Dev nD → ArrX F) (W : Dev nD → ArrW F) (c : Dev nD)

/-- The rights to pay device `c`'s own cells. -/
def toks : sProp 𝕄 :=
  iprop((dutyTok ER (bCell c) 0 false ∗ dutyTok ER (bCell c) 0 true)
    ∗ (bigSep Finset.univ fun i => dutyTok ER (sCell i c) 0 false) ∗ bigSep Finset.univ fun i => dutyTok ER (rCell i c) 0 false)
/-- The rights device `c` pays with: at its own send cells, its neighbours' barriers, its peers' receive cells. -/
def rights : sProp 𝕄 :=
  iprop((dutyTok ER (bCell (nxt c)) 0 false ∗ dutyTok ER (bCell (prv c)) 0 true)
    ∗ (bigSep Finset.univ fun i => dutyTok ER (sCell i c) 0 false)
    ∗ bigSep Finset.univ fun i => dutyTok ER (rCell i (peer i c)) 0 false)
/-- Device `c`'s places at its own cells. -/
def places : sProp 𝕄 := bigSep Finset.univ fun k : Ks => atPos ER (kcell (c, k)) 0 ∅ 0

/-- What the launch deals device `c`. -/
def G : sProp 𝕄 :=
  iprop((bigSep Finset.univ fun k : Ks => roundState ER (sched X W) (kcell (c, k)) 0)
    ∗ (places c ∗ bigSep Finset.univ fun k : Ks => reached ER (kcell (c, k)) 0) ∗ toks c)

/-- What all devices know but for the levels. -/
def known (K : Dev nD × Ks → ℕ) : sProp 𝕄 :=
  iprop((bigSep Finset.univ fun x : Dev nD × Ks => cellInv ER (sched X W) (K x) (kcell x))
    ∗ bigSep Finset.univ fun x : Dev nD × Ks => reached ER (kcell x) 0)

instance known_persistent (K : Dev nD × Ks → ℕ) : BI.Persistent (known X W K) := by unfold known; infer_instance

/-- What device `c` has after all cells are open. -/
def G' : sProp 𝕄 := iprop(∃ K, known X W K ∗ places c ∗ rights c)

/-- The rights to a device's duties, one by one. -/
theorem toks_eq : (bigSep Finset.univ fun j : Bool ⊕ Xs => (dutyTok ER (tokOf (c, j)).1 (tokOf (c, j)).2.1 (tokOf (c, j)).2.2 : sProp 𝕄))
    = toks c := by
  rw [bigSep_univ_sum, bigSep_univ_sum, bigSep_univ_eq_bigSepL [false, true] (by decide) (by decide), bigSepL_cons_cons, bigSepL_singleton]
  rfl

/-- The launch mints the places and the rights of every device. -/
theorem fund_ring : BI.own (ER (initOf ringCells ringToks)) ⊢ (|==> bigSep Finset.univ (G X W) : sProp 𝕄) := by
  have hX (Φ : GSem nD τ sig → sProp 𝕄) : bigSep ringCells Φ = bigSep Finset.univ fun c : Dev nD => bigSep Finset.univ fun k : Ks => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro H
  imod (Rounds.fund ER (sched X W) ringCells ringToks) $$ H with ⟨Hst, Hr, Hat, Htok⟩
  imodintro
  ihave Hst := (Entails.of_eq (hX fun g => roundState ER (sched X W) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G places
  simp only [bigSep_sep']
  isplitl [Hst]; · iexact Hst
  isplitl [Hat Hr]
  · isplitl [Hat] <;> iassumption
  iexact Htok

/-- The barrier semaphore is the one semaphore that outlives the launch. -/
theorem unscopedSems0_eq : (unscopedSems0 c : sProp 𝕄) = semVal (bCell c) 0 := by
  unfold unscopedSems0; rw [bigSep_eq_bigSepL_of_eq [SemLoc.reg barS] (by decide) (by decide)]; rfl
/-- The copies' semaphores are the launch's own. -/
theorem ownSems0_eq : (Pipeline.ownSems0 (Ix := Unit) (Name := ℕ) (U := UU) (Lvl := ℕ) (Val := Elt F) (τ := τ) osem c : sProp 𝕄)
    = iprop((bigSep Finset.univ fun i => semVal (sCell i c) 0) ∗ bigSep Finset.univ fun i => semVal (rCell i c) 0) := by
  unfold Pipeline.ownSems0; rw [bigSep_univ_sum]; rfl

/-- All of a device's counters at zero. -/
theorem counters : iprop(Pipeline.ownSems0 (Ix := Unit) (Name := ℕ) (U := UU) (Lvl := ℕ) (Val := Elt F) (τ := τ) osem c ∗ unscopedSems0 c)
    ⊢ (bigSep Finset.univ fun k : Ks => semVal (kcell (c, k)) 0 : sProp 𝕄) := by
  rw [bigSep_univ_sum, bigSep_univ_of_subsingleton (), unscopedSems0_eq]
  exact sep_comm.1

/-- A device's cells are opened. -/
theorem core_alloc :
    iprop(Pipeline.ownSems0 (Ix := Unit) (Name := ℕ) (U := UU) (Lvl := ℕ) (Val := Elt F) (τ := τ) osem c ∗ unscopedSems0 c ∗ G X W c)
      ⊢ |={Set.univ}=> iprop((bigSep Finset.univ fun k : Ks => iprop(∃ κ : ℕ, cellInv ER (sched X W) κ (kcell (c, k))))
          ∗ (bigSep Finset.univ fun k : Ks => reached ER (kcell (c, k)) 0) ∗ places c ∗ toks c) := by
  unfold G
  iintro ⟨Hos, Hus, Hst, ⟨Hat, Hr⟩, Htok⟩
  ihave Hv := (counters (F := F) c) $$ [Hos Hus]
  · isplitl [Hos] <;> iassumption
  imod (show iprop((bigSep Finset.univ fun k : Ks => semVal (kcell (c, k)) 0) ∗ bigSep Finset.univ fun k : Ks => roundState ER (sched X W) (kcell (c, k)) 0)
      ⊢ (|={Set.univ}=> bigSep Finset.univ fun k : Ks => iprop(∃ κ : ℕ, cellInv ER (sched X W) κ (kcell (c, k))) : sProp 𝕄) from by
        rw [← bigSep_sep']
        exact (bigSep_mono fun k _ => (Rounds.body_intro ER (sched X W) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

end Mint

/-! ## The rights go around -/

/-- The right neighbour, as a permutation of the devices. -/
def turn : Dev nD ≃ Dev nD := ⟨nxt, prv, prv_nxt, nxt_prv⟩
/-- A copy's peer, as a permutation of the devices. -/
def peers (i : Fin 12) : Dev nD ≃ Dev nD := ⟨peer i, origin i, origin_peer i, peer_origin i⟩

/-- Every right goes to the device that does the duty. -/
theorem toks_around : (bigSep Finset.univ fun c : Dev nD => (toks c : sProp 𝕄)) ⊢ bigSep Finset.univ fun c : Dev nD => rights c := by
  have hr : (bigSep Finset.univ fun c : Dev nD => bigSep Finset.univ fun i : Fin 12 => (dutyTok ER (rCell i c) 0 false : sProp 𝕄))
      = bigSep Finset.univ fun c : Dev nD => bigSep Finset.univ fun i : Fin 12 => dutyTok ER (rCell i (peer i c)) 0 false := by
    rw [bigSep_univ_comm, bigSep_univ_comm fun (c : Dev nD) (i : Fin 12) => (dutyTok ER (rCell i (peer i c)) 0 false : sProp 𝕄)]
    exact bigSep_congr fun i _ => bigSep_univ_equiv (peers i) fun c : Dev nD => (dutyTok ER (rCell i c) 0 false : sProp 𝕄)
  unfold toks rights
  simp only [bigSep_sep']
  rw [hr, bigSep_univ_equiv turn (fun c : Dev nD => (dutyTok ER (bCell c) 0 false : sProp 𝕄)),
    bigSep_univ_equiv turn.symm (fun c : Dev nD => (dutyTok ER (bCell c) 0 true : sProp 𝕄))]
  exact Entails.refl _

/-- A persistent fact reaches every member of a family. -/
theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

section Global

variable (X : Dev nD → ArrX F) (W : Dev nD → ArrW F)

/-- With all cells open, every device has its places and rights and knows all cells. -/
theorem regroup :
    (bigSep Finset.univ fun c : Dev nD => iprop((bigSep Finset.univ fun k : Ks => iprop(∃ κ : ℕ, cellInv ER (sched X W) κ (kcell (c, k))))
          ∗ (bigSep Finset.univ fun k : Ks => reached ER (kcell (c, k)) 0) ∗ places c ∗ toks c) : sProp 𝕄)
      ⊢ bigSep Finset.univ (G' X W) := by
  simp only [bigSep_sep']
  rw [← bigSep_univ_prod (fun x : Dev nD × Ks => iprop(∃ κ : ℕ, cellInv ER (sched X W) κ (kcell x))),
    ← bigSep_univ_prod (fun x : Dev nD × Ks => (reached ER (kcell x) 0 : sProp 𝕄))]
  iintro ⟨HI, #HR, Hat, Htok⟩
  ihave HK := (BI.bigSep_exists_pi Finset.univ (fun (x : Dev nD × Ks) (κ : ℕ) => (cellInv ER (sched X W) κ (kcell x) : sProp 𝕄))) $$ HI
  icases HK with ⟨%K, #HI⟩
  ihave Htok := (toks_around (F := F)) $$ Htok
  iapply (spread (R := known X W K) (Φ := fun c : Dev nD => iprop(places c ∗ rights c)) fun c _ => by
    unfold G'; iintro ⟨#HK, H⟩; iexists K; isplitr; · iexact HK
    iexact H)
  isplitr
  · unfold known; isplitl; · iexact HI
    iexact HR
  · rw [bigSep_sep']
    isplitl [Hat] <;> iassumption

/-- All cells of all devices are opened. -/
theorem glob : (bigSep Finset.univ fun c => iprop(Pipeline.ownSems0 (Ix := Unit) (Name := ℕ) (U := UU) (Lvl := ℕ) (Val := Elt F) (τ := τ) osem c ∗ unscopedSems0 c ∗ G X W c) : sProp 𝕄)
    ⊢ |={Set.univ}=> bigSep Finset.univ (G' X W) :=
  ((bigSep_mono fun c _ => core_alloc X W c).trans (bigSep_fupd _ _)).trans (BI.fupd_mono (regroup X W))

end Global

/-! ## The credit -/

variable (c : Dev nD)

/-- The credit of the copies of a list is each receive cell's. -/
theorem creds_of (l : List (Fin 12)) :
    (Pipeline.launchCred (fun d => due d l) c : sProp 𝕄) ⊢ each (fun i => cred (tallyAt (rCell i c) () (amt i))) l := by
  induction l with
  | nil => exact Entails.of_eq (Pipeline.launchCred_zero c)
  | cons i l ih =>
    rw [show (fun d => due d (i :: l)) = fun d : Dev nD => due d l + tallyAt (rCell i (peer i d)) () (amt i) from rfl, Pipeline.launchCred_add]
    exact (BIClass.sep_mono ih (Pipeline.launchCred_tallyAt (.dma (recvS i)) (peer i) (origin i) (peer_origin i) (origin_peer i) () (amt i) c)).trans sep_comm.1

/-- The credit device `c` waits with: its barrier's two units, its receive cells'. -/
theorem creds : (Pipeline.launchCred O₀ c : sProp 𝕄)
    ⊢ iprop(cred (tallyAt (bCell c) () 2) ∗ bigSep Finset.univ fun i => cred (tallyAt (rCell i c) () (amt i))) := by
  rw [show (O₀ : Dev nD → CellTallies nD τ sig Unit) = fun d => due d allCopies + tallyAt (bCell (nxt d)) () 1 + tallyAt (bCell (prv d)) () 1 from rfl,
    Pipeline.launchCred_add, Pipeline.launchCred_add]
  iintro ⟨⟨H, H1⟩, H2⟩
  ihave H1 := (Pipeline.launchCred_tallyAt (.reg barS) nxt prv nxt_prv prv_nxt () 1 c) $$ H1
  ihave H2 := (Pipeline.launchCred_tallyAt (.reg barS) prv nxt prv_nxt nxt_prv () 1 c) $$ H2
  isplitl [H1 H2]
  · rw [show (tallyAt (bCell c) () 2 : CellTallies nD τ sig Unit) = tallyAt (bCell c) () 1 + tallyAt (bCell c) () 1 from (tallyAt_add _ _ 1 1).symm]
    iapply (cred_add _ _).2
    isplitl [H1] <;> iassumption
  · iapply (each_all (fun i => (cred (tallyAt (rCell i c) () (amt i)) : sProp 𝕄)) allCopies (by decide) (by decide)).2
    iapply (creds_of c allCopies); iexact H

/-! ## The entry and the exit of the launch -/

variable (m : (ℓ : Loc nD τ sig) → Buf (Elt F) ℓ) (ρ : Dev nD → PrngReg)

/-- A device's places, rights and credit are what its run is dealt. -/
theorem deal : iprop(places c ∗ rights c ∗ cred (tallyAt (bCell c) () 2) ∗ bigSep Finset.univ fun i => cred (tallyAt (rCell i c) () (amt i)))
    ⊢ (dealt c : sProp 𝕄) := by
  have e : (places c : sProp 𝕄) ⊢ iprop(atPos ER (bCell c) 0 ∅ 0
      ∗ (bigSep Finset.univ fun i => atPos ER (sCell i c) 0 ∅ 0) ∗ bigSep Finset.univ fun i => atPos ER (rCell i c) 0 ∅ 0) := by
    unfold places
    rw [bigSep_univ_sum, bigSep_univ_of_subsingleton (), bigSep_univ_sum]
    exact Entails.refl _
  refine (sep_mono_left e).trans ?_
  unfold rights dealt toGreet toSend toReceive
  simp only [bigSep_sep']
  iintro ⟨⟨HB, HS, HV⟩, ⟨⟨T1, T2⟩, TS, TV⟩, C, CV⟩
  isplitl [T1 T2 C HB]
  · isplitl [T2]; · iexact T2
    isplitl [T1]; · iexact T1
    isplitl [C]; · iexact C
    iexact HB
  isplitl [TS TV HS]
  · isplitl [TS]; · iexact TS
    isplitl [TV]; · iexact TV
    iexact HS
  · isplitl [CV]; · iexact CV
    iexact HV

/-- What the launch hands a device is what its body starts from. -/
theorem start_intro :
    iprop(Pipeline.unscopedRestP Pipeline.Prefetch.none cfg0.spec c (fun b => m ((c : Thread nD τ).loc b)) ∗ levAts L lv
        ∗ Pipeline.launchCred O₀ c ∗ prngReg c (ρ c) ∗ G' (xAt m) (wAt m) c)
      ⊢ |={Set.univ}=> iprop(start m c ∗ emp) := by
  unfold G' known start records
  iintro ⟨-, Hlev, Hcr, -, ⟨%K, ⟨HI, HR⟩, Hat, Ht⟩⟩
  ihave Hc := (creds (F := F) c) $$ Hcr
  icases Hc with ⟨HB, HV⟩
  imodintro
  isplitl
  · isplitl [HI HR Hlev]
    · iexists K
      isplitl [HI]; · iexact HI
      isplitl [HR] <;> iassumption
    iapply (deal c)
    isplitl [Hat]; · iexact Hat
    isplitl [Ht]; · iexact Ht
    isplitl [HB] <;> iassumption
  · iempintro

/-- The scratch buffers are the landing buffers. -/
theorem scratch_landing : (Pipeline.scopedRest cfg0.spec c : sProp 𝕄) = landing c := by
  rw [scopedRest0_eq]
  unfold landing has
  simp only [owns_whole]
  rfl

/-- The start and the scratch buffers are what the body needs. -/
theorem enter :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before₀ m c from rfl, scratch_landing]
  unfold before₀
  iintro ⟨H, -, HL⟩
  isplitl [H] <;> iassumption

/-- After the body the semaphores are at zero and the scratch buffers are back. -/
theorem leave :
    (dats m 0 c).Φ (Fin.last cfg0.N) ⊢ iprop(unscopedSems0 c ∗ Pipeline.ownSems0 osem c ∗ Pipeline.scopedRest cfg0.spec c) := by
  rw [show (dats m 0 c).Φ (Fin.last cfg0.N) = after₀ c from rfl, scratch_landing, ownSems0_eq, unscopedSems0_eq]
  unfold after₀
  iintro ⟨HL, HB, HS, HV⟩
  isplitl [HB]; · iexact HB
  isplitl [HS HV]
  · isplitl [HS] <;> iassumption
  iexact HL

/-- The pipeline's own semaphores are none of the protocol's. -/
theorem stage_level (w : Fin cfg0.W) (s : Fin (cfg0.win w).nbuf) : lvOf (kind (.dma ((cfg0.win w).sem s))) = 0 := by
  have h : ∀ k : Ks, csem k ≠ .dma ((cfg0.win w).sem s) := by
    rintro (_ | k)
    · intro h; cases h
    · revert k; fin_cases w <;> fin_cases s <;> decide +kernel
  unfold kind
  rw [dif_neg fun ⟨k, hk⟩ => h k hk]
  rfl

/-- The pipeline may wait for its own transfers. -/
theorem waits : (levAts L lv : sProp 𝕄) ⊢ Pipeline.cellsWaits cfgs (dats m) () 0 c :=
  Pipeline.cellsWaits_intro cfgs (dats m) () 0 c fun w s t => by
    rcases t with ⟨_ | _, ht⟩
    · exact mayWait_launch c _ (stage_level w s)
    · show _ ⊢ MayWait _ _ _ 0
      rw [MayWait_zero]; iintro -; iempintro

/-- Every staging buffer is held whole. -/
theorem share_eq (w : Fin cfg0.W) : (dats m 0 c).share w = fullShare := by unfold Dat.share; split <;> rfl

/-! ## The run -/

/-- What the windows' arrays hold in the end. -/
def finalA (c : Dev nD) (w : Fin cfg0.W) : Buf (Elt F) ((cfg0.win w).arr.view.loc (c : Thread nD τ)) := (dats m 0 c).arrAt w cfg0.N

set_option maxRecDepth 8000 in
/-- From any memory with zero counters the program ends, every window's array at its final contents, every counter at zero. -/
theorem run_windows : θ_run defs (onTc (τ := τ) (main (F := F))) (s₀ m ρ) (fun r =>
    (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ osem_facts (Pipeline.PreFacts.none _) embL defs₀ 𝒱₀ m ρ main
    (hmain := fun _ => rfl)
    (hbody := fun c => (body_obligation m c).loose) (hne := block_pos0) (harr := arr_whole0) (hstage := stage_whole0) (hshare := fun c => share_eq c m)
    (hdistinct := winFacts0.arr_inj)
    (O₀ := O₀) (howed₀ := fun _ => rfl) (howedN := fun _ => rfl)
    (L := L) (lv := lv) (hL := L_of_ne) (hwaits := fun c => waits c m)
    (G := G (xAt m) (wAt m)) (G' := G' (xAt m) (wAt m)) (u₀ := u₀)
    (hu₀ := by
      unfold u₀
      iintro Hu
      ihave H := (ownU_pair _ _) $$ Hu
      icases H with ⟨HP, HX⟩
      imod (fund_ring (xAt m) (wAt m)) $$ HX with HG
      imodintro
      isplitl [HP] <;> iassumption)
    (hglob := glob (xAt m) (wAt m))
    (hA := fun _ _ => rfl) (hpf := fun _ k => k.elim0)
    (X := start m) (Y := fun c => unscopedSems0 c) (Z := fun _ => iprop(emp))
    (hX := fun c => start_intro c m ρ) (hin := fun c => enter c m) (hout := fun c => leave c m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Ring

end
-- ==== Proof.Final.lean ====
/-
# What the kernel leaves in memory

The operands' arrays end as they were, the result's array holds what the body wrote: every window is
its whole array.
-/
module

public import proofs.«01_k».proof.Proof.Run
public import Idealize.ShloMosaic.Lib.Pipeline.Value

@[expose] public section

noncomputable section

namespace Cert.Ring

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- Device `c`'s shard of the left operand is its array's contents. -/
theorem xAt_eq (c : Dev nD) : xAt m c = m ((c : Thread nD τ).loc main_arg0) :=
  Memref.read_access_unit_zero (Elt F) main_arg0 (funext fun a => Nat.zero_mul _) _ _
/-- Its shard of the right operand likewise, -/
theorem wAt_eq (c : Dev nD) : wAt m c = m ((c : Thread nD τ).loc main_arg1) :=
  Memref.read_access_unit_zero (Elt F) main_arg1 (funext fun a => Nat.zero_mul _) _ _
/-- the left operand's scale, -/
theorem sxAt_eq (c : Dev nD) : sxAt m c = m ((c : Thread nD τ).loc main_arg2) :=
  Memref.read_access_unit_zero (Elt F) main_arg2 (funext fun a => Nat.zero_mul _) _ _
/-- and the right operand's. -/
theorem swAt_eq (c : Dev nD) : swAt m c = m ((c : Thread nD τ).loc main_arg3) :=
  Memref.read_access_unit_zero (Elt F) main_arg3 (funext fun a => Nat.zero_mul _) _ _

/-- The result's array ends holding what the body wrote: the one block is the whole array. -/
theorem result_eq (c : Dev nD) : finalA m c 4 = resAt m c := by
  have read (t : Fin cfg0.N) (f : ArrO F) : ((cfg0.win 4).blk t).view.read (Elt F) f = f :=
    Memref.read_access_unit_zero (Elt F) main_v1 (funext fun a => Nat.zero_mul _) _ f
  refine (dats m 0 c).arrAt_eq_of_cover 4 (resAt m c) (fun t _ => ?_) fun i => ⟨(0 : Fin 1), flush0_4 (0 : Fin 1), ?_⟩
  · rw [read t (resAt m c)]; rfl
  · show i ∈ ((View.whole main_v1).slice (win0_4.rect (0 : Fin 1))).set
    rw [View.set_slice_whole, Rect.mem_set_unit]
    intro a
    refine ⟨(Nat.zero_mul _).trans_le (Nat.zero_le _), (i a).isLt.trans_le ?_⟩
    exact Nat.le_of_eq ((Nat.zero_add _).symm.trans (congrArg (· + _) (Nat.zero_mul _).symm))

/-- From any memory with zero counters the program ends, the result at its value, the operands unchanged, every counter at zero. -/
theorem run_main : θ_run defs (onTc (τ := τ) (main (F := F))) (s₀ m ρ) (fun r => (∀ c : Dev nD,
      r.2.mem ((c : Thread nD τ).loc main_v1) = resAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c => ⟨(h.1 c 4).trans (result_eq m c),
      (h.1 c 0).trans ((dats m 0 c).arrAt_in 0 rfl _), (h.1 c 1).trans ((dats m 0 c).arrAt_in 1 rfl _),
      (h.1 c 2).trans ((dats m 0 c).arrAt_in 2 rfl _), (h.1 c 3).trans ((dats m 0 c).arrAt_in 3 rfl _)⟩, h.2⟩)
    (run_windows m ρ)

end Cert.Ring

end
-- ==== Proof.Sums.lean ====
/-
# The result as one sum

Over the extended reals a product of two operands is a sum over the contracted positions. A device's
four products run over the four quarters of the whole contraction, each once, so what it leaves in
the output is the whole product times the scales, whichever device it is.
-/
module

public import proofs.«01_k».proof.Proof.Body
public import proofs.«01_k».proof.Proof.Gen.ReferenceIdeal.Skeleton
public import Idealize.ShloMosaic.Lib.MatmulPlain
public import Idealize.ShloMosaic.Lib.ValueIdx
public import Idealize.ShloMosaic.Lib.Layout
public import Idealize.ShloMosaic.Lib.Pipeline.Value

@[expose] public section

noncomputable section

namespace Cert.Ring

open Cert.KernelIdeal Cert.KernelIdeal.Gen
open Idealize.ShloMosaic Idealize.ShloMosaic.ValueIdx
open scoped BigOperators

/-- An index of the output is a row and a column. -/
theorem exists_ix2 (j : S4096x2048.Idx) : ∃ (r : Fin 4096) (l : Fin 2048), j = ix2 r l := ⟨j 0, j 1, eq_ix2 (n0 := 4096) (n1 := 2048) j⟩

/-! ## One product -/

/-- The product of two operands at row `r` and column `l`. -/
def dot {M K N : ℕ} (x : (⟨2, ![M, K]⟩ : Shape).Idx → EReal) (w : (⟨2, ![K, N]⟩ : Shape).Idx → EReal) (r : Fin M) (l : Fin N) : EReal :=
  ∑ k : Fin K, x (ix2 r k) * w (ix2 k l)

/-- The kernel's product of a row block, read at an index, is that sum. -/
theorem prod_apply (x : FVec Ideal S256x1024 .fp8e4m3) (w : FVec Ideal S1024x2048 .fp8e5m2) (r : Fin 256) (l : Fin 2048) :
    prod x w (ix2 r l) = dot x w r l := by
  refine (Ideal.matmul_plain_apply (M := 256) (K := 1024) (N := 2048) none x w _ r l).trans ?_
  rw [constant_apply, Ideal.ofBits_zero_f32, zero_add]; rfl

/-- A row of the left operand is a row of its row block. -/
theorem bX_emb (X : ArrX Ideal) (r : Fin 4096) (k : Fin 1024) :
    X ((bX ⟨r.val / 256, Nat.div_lt_of_lt_mul r.isLt⟩).emb (ix2 (⟨r.val % 256, Nat.mod_lt _ (by decide)⟩ : Fin 256) k)) = X (ix2 r k) := by
  congr 1
  funext a
  refine Fin.ext ?_
  rw [Rect.emb_apply]
  match a with
  | ⟨0, _⟩ => show 256 * (r.val / 256) + 1 * (r.val % 256) = r.val; omega
  | ⟨1, _⟩ => show 0 + 1 * k.val = k.val; omega

/-- The whole of a right operand is read as it is. -/
theorem aW_emb (W : ArrW Ideal) : (fun i => W (aW.emb i)) = W := by
  funext i
  congr 1
  funext a
  refine Fin.ext ?_
  rw [Rect.emb_apply]
  match a with
  | ⟨0, _⟩ => show 0 + 1 * (i 0).val = (i 0).val; omega
  | ⟨1, _⟩ => show 0 + 1 * (i 1).val = (i 1).val; omega

/-- The output's row `r` is row `r % 256` of row block `r / 256`. -/
theorem bO_emb (O : ArrO Ideal) (r : Fin 4096) (l : Fin 2048) :
    O ((bO ⟨r.val / 256, Nat.div_lt_of_lt_mul r.isLt⟩).emb (ix2 (⟨r.val % 256, Nat.mod_lt _ (by decide)⟩ : Fin 256) l)) = O (ix2 r l) := by
  congr 1
  funext a
  refine Fin.ext ?_
  rw [Rect.emb_apply]
  match a with
  | ⟨0, _⟩ => show 256 * (r.val / 256) + 1 * (r.val % 256) = r.val; omega
  | ⟨1, _⟩ => show 0 + 1 * l.val = l.val; omega

/-- An array of row blocks at row `r` and column `l`. -/
theorem rowBlocks_ix2 (G : Fin 16 → S256x2048.Idx → EReal) (r : Fin 4096) (l : Fin 2048) :
    rowBlocks G (ix2 r l) = G ⟨r.val / 256, Nat.div_lt_of_lt_mul r.isLt⟩ (ix2 (⟨r.val % 256, Nat.mod_lt _ (by decide)⟩ : Fin 256) l) := by
  unfold rowBlocks
  congr 1
  funext a
  match a with
  | ⟨0, _⟩ => rfl
  | ⟨1, _⟩ => rfl

/-- The product of the row block that holds row `r`, at that row, is the operands' product there. -/
theorem prod_row (X : ArrX Ideal) (W : ArrW Ideal) (r : Fin 4096) (l : Fin 2048) :
    prod (F := Ideal) (fun i => X ((bX ⟨r.val / 256, Nat.div_lt_of_lt_mul r.isLt⟩).emb i)) W
      (ix2 (⟨r.val % 256, Nat.mod_lt _ (by decide)⟩ : Fin 256) l) = dot X W r l := by
  rw [prod_apply]
  exact Finset.sum_congr rfl fun k _ => congrArg (· * _) (bX_emb X r k)

/-! ## The passes -/

/-- The first pass leaves the product. -/
theorem new0_apply (X : ArrX Ideal) (W : ArrW Ideal) (r : Fin 4096) (l : Fin 2048) : new0 X W (ix2 r l) = dot X W r l := by
  unfold new0
  rw [rowBlocks_ix2]
  refine (congrArg (fun w => val0 _ w _) (aW_emb W)).trans ?_
  unfold val0
  rw [shapeCast_self, shapeCast_self, prod_row]

/-- A middle pass adds the product. -/
theorem new1_apply (X : ArrX Ideal) (W : ArrW Ideal) (O : ArrO Ideal) (r : Fin 4096) (l : Fin 2048) :
    new1 X W O (ix2 r l) = (O (ix2 r l) + dot X W r l : EReal) := by
  unfold new1
  rw [rowBlocks_ix2]
  refine (congrArg (fun w => val1 _ w _ _) (aW_emb W)).trans ?_
  unfold val1
  rw [addf_apply, shapeCast_self, prod_row, bO_emb O]

/-- The last pass adds the product and scales the sum. -/
theorem new2_apply (X : ArrX Ideal) (W : ArrW Ideal) (sx sw : ArrS Ideal) (O : ArrO Ideal) (r : Fin 4096) (l : Fin 2048) :
    new2 X W sx sw O (ix2 r l) = ((O (ix2 r l) + dot X W r l) * (sx (aS.emb i1) * sw (aS.emb i1)) : EReal) := by
  unfold new2
  rw [rowBlocks_ix2]
  refine (congrArg (fun w => val2 _ w _ _ _ _) (aW_emb W)).trans ?_
  unfold val2 val1
  rw [mulf_apply, addf_apply, shapeCast_self, prod_row, bO_emb O, broadcast_apply]
  rfl

/-! ## The four products -/

/-- From any device, itself, its left neighbour, its right one and the one opposite are the four devices. -/
theorem sum_devices (p : Dev nD → EReal) (c : Dev nD) : p c + p (prv c) + p (nxt c) + p (opp c) = ∑ d, p d := by
  rw [show (∑ d, p d) = p 0 + p 1 + p 2 + p 3 from Fin.sum_univ_four p]
  fin_cases c
  · show p 0 + p 3 + p 1 + p 2 = _; ac_rfl
  · show p 1 + p 0 + p 2 + p 3 = _; ac_rfl
  · show p 2 + p 1 + p 3 + p 0 = _; ac_rfl
  · show p 3 + p 2 + p 0 + p 1 = _; ac_rfl

/-- The whole product is the sum of the four devices' products of their shards. -/
theorem dot_shards (A : Cert.ReferenceIdeal.S4096x4096.Idx → EReal) (B : S4096x2048.Idx → EReal) (X : Dev nD → ArrX Ideal) (W : Dev nD → ArrW Ideal)
    (hX : ∀ c, X c = Layout.block ⟨2, ![4096, 1024]⟩ ⟨2, ![4096, 4096]⟩ 1 4 c A)
    (hW : ∀ c, W c = Layout.block ⟨2, ![1024, 2048]⟩ ⟨2, ![4096, 2048]⟩ 0 4 c B) (r : Fin 4096) (l : Fin 2048) :
    (∑ d, dot (X d) (W d) r l) = dot (M := 4096) (K := 4096) (N := 2048) A B r l := by
  unfold dot
  rw [← Equiv.sum_comp (finProdFinEquiv (m := 4) (n := 1024)), Fintype.sum_prod_type]
  refine Finset.sum_congr rfl fun d _ => Finset.sum_congr rfl fun k _ => ?_
  rw [hX, hW, Layout.block_apply, Layout.block_apply]
  congr 2
  · funext a
    refine Fin.ext ?_
    rw [Layout.Tiles.idx_val]
    match a with
    | ⟨0, _⟩ => rfl
    | ⟨1, _⟩ => show d.val * 1024 + k.val = k.val + 1024 * d.val; omega
  · funext a
    refine Fin.ext ?_
    rw [Layout.Tiles.idx_val]
    match a with
    | ⟨0, _⟩ => show d.val * 1024 + k.val = k.val + 1024 * d.val; omega
    | ⟨1, _⟩ => rfl

/-- What every device leaves in the output. -/
def whole (A : Cert.ReferenceIdeal.S4096x4096.Idx → EReal) (B : S4096x2048.Idx → EReal) (sx sw : ArrS Ideal) : ArrO Ideal :=
  fun j => (dot (M := 4096) (K := 4096) (N := 2048) A B (j 0) (j 1) * (sx (ix1 0) * sw (ix1 0)) : EReal)

/-- The index a load of a scale names is the only one. -/
theorem aS_emb : aS.emb i1 = ix1 (0 : Fin 1) := by
  funext a
  match a with
  | ⟨0, _⟩ => exact Subsingleton.elim (α := Fin 1) _ _

/-- From sharded operands, device `c`'s output is the whole product times the scales. -/
theorem outAt_eq (A : Cert.ReferenceIdeal.S4096x4096.Idx → EReal) (B : S4096x2048.Idx → EReal) (X : Dev nD → ArrX Ideal) (W : Dev nD → ArrW Ideal)
    (hX : ∀ c, X c = Layout.block ⟨2, ![4096, 1024]⟩ ⟨2, ![4096, 4096]⟩ 1 4 c A)
    (hW : ∀ c, W c = Layout.block ⟨2, ![1024, 2048]⟩ ⟨2, ![4096, 2048]⟩ 0 4 c B) (c : Dev nD) (sx sw : ArrS Ideal) :
    outAt X W c sx sw = whole A B sx sw := by
  funext j
  obtain ⟨r, l, rfl⟩ := exists_ix2 j
  unfold outAt
  rw [new2_apply, new1_apply, new1_apply, new0_apply, aS_emb,
    sum_devices (fun d => dot (X d) (W d) r l), dot_shards A B X W hX hW]
  rfl

/-! ## The reference's product -/

/-- The value the reference stores is the whole product times the scales. -/
theorem reference_value (A : Vec Ideal Cert.ReferenceIdeal.S4096x4096 .fp8e4m3) (B : Vec Ideal Cert.ReferenceIdeal.S4096x2048 .fp8e5m2)
    (sx sw : ArrS Ideal) :
    Cert.ReferenceIdeal.Gen.k0_pay1 (F := Ideal) A B (sx (ix1 0)) (sw (ix1 0)) = whole A B sx sw := by
  funext j
  obtain ⟨r, l, rfl⟩ := exists_ix2 j
  unfold Cert.ReferenceIdeal.Gen.k0_pay1
  rw [mulf_apply, broadcast_apply]
  refine congrArg (· * _) ((Ideal.matmul_plain_apply (M := 4096) (K := 4096) (N := 2048) none _ _ _ r l).trans ?_)
  rw [constant_apply, Ideal.ofBits_zero_f32, zero_add]; rfl

end Cert.Ring

end
-- ==== Proof.Reference.lean ====
/-
# What the reference leaves in memory

The reference's one store covers its result: it ends holding the stored value of its arguments.
-/
module

public import proofs.«01_k».proof.Proof.Sums
public import proofs.«01_k».proof.Proof.Gen.ReferenceIdeal.Value
public import Idealize.ShloMosaic.Lib.Tactic

@[expose] public section

noncomputable section

namespace Cert.Ring.Reference

open Cert.ReferenceIdeal Cert.ReferenceIdeal.Gen
open Idealize.ShloMosaic Idealize.ShloMosaic.TcCoe Idealize.ShloMosaic.ValueIdx
open Idealize.SL.Sem

variable {F : FTy → Type} [FloatOps F]
variable (m : (ℓ : Loc nD τ sig) → Buf (Elt F) ℓ) (ρ : Dev nD → PrngReg)

/-- Zero offsets on two axes. -/
theorem offsets₂ : (![0, 0] : Fin 2 → Nat) = fun _ => 0 := funext fun a => by fin_cases a <;> rfl

/-- The index a scalar load names is the only one. -/
theorem only (i : S1.Idx) : i = ix1 (0 : Fin 1) := by
  funext a
  match a with
  | ⟨0, _⟩ => exact Subsingleton.elim (α := Fin 1) _ _

/-- What the run's one store leaves in the output's staging buffer. -/
theorem stored (c : Dev nD) (a0 : Memref sig .tc .vmem S4096x4096 .fp8e4m3) (h0 : a0.IsWhole) (a1 : Memref sig .tc .vmem S4096x2048 .fp8e5m2)
    (h1 : a1.IsWhole) (a2 : Memref sig .tc .smem S1 .f32) (h2 : a2.IsWhole) (a3 : Memref sig .tc .smem S1 .f32) (h3 : a3.IsWhole)
    (a4 : Memref sig .tc .vmem S4096x2048 .f32) (h4 : a4.IsWhole) (A : Vec F S4096x4096 .fp8e4m3) (B : Vec F S4096x2048 .fp8e5m2)
    (sx sw : Vec F S1 .f32) :
    out0_A_4 c a0 h0 a1 h1 a2 h2 a3 h3 a4 h4 A B sx sw = k0_pay1 A B (sx (ix1 0)) (sw (ix1 0)) := by
  unfold out0_A_4
  rw [View.read_writes_eq_canon _ _ _ (cover0_A_4 c a0 h0 a1 h1 a2 h2 a3 h3 a4 h4 A B sx sw)]
  unfold kernelRun0_A
  dsimp only
  sl_unfold_words
  rw [View.canon_unit_zero offsets₂]
  simp only [View.readAt_eq_ld, h0.read_unread, h1.read_unread, h2.read_unread, h3.read_unread,
    View.ld_unit_zero (S := S4096x4096) offsets₂, View.ld_unit_zero (S := S4096x2048) offsets₂]
  congr 1
  · exact congrArg sx (only _)
  · exact congrArg sw (only _)

/-- The result's array ends holding that value of the arguments. -/
theorem final (c : Dev nD) : (dats m 0 c).arrAt 4 cfg0.N
    = k0_pay1 (m ((c : Thread nD τ).loc main_arg0)) (m ((c : Thread nD τ).loc main_arg1))
        (m ((c : Thread nD τ).loc main_arg2) (ix1 0)) (m ((c : Thread nD τ).loc main_arg3) (ix1 0)) := by
  have read (f : S4096x2048.Idx → Elt F .f32) : ((cfg0.win 4).blk t0_0).view.read (Elt F) f = f :=
    Memref.read_access_unit_zero (Elt F) main_v0 (funext fun a => Nat.zero_mul _) _ f
  refine (read _).symm.trans ((Cert.ReferenceIdeal.Value.blocks4 m c t0_0 (flush0_4 _)).trans ?_)
  refine (Cert.ReferenceIdeal.Value.flushed4_A m c t0_0).trans ?_
  refine (stored c _ _ _ _ _ _ _ _ _ _ _ _ _ _).trans ?_
  have e0 : iblk m c 0 t0_0 = m ((c : Thread nD τ).loc main_arg0) :=
    Memref.read_access_unit_zero (Elt F) main_arg0 (funext fun a => Nat.zero_mul _) _ _
  have e1 : iblk m c 1 t0_0 = m ((c : Thread nD τ).loc main_arg1) :=
    Memref.read_access_unit_zero (Elt F) main_arg1 (funext fun a => Nat.zero_mul _) _ _
  have e2 : iblk m c 2 t0_0 = m ((c : Thread nD τ).loc main_arg2) :=
    Memref.read_access_unit_zero (Elt F) main_arg2 (funext fun a => Nat.zero_mul _) _ _
  have e3 : iblk m c 3 t0_0 = m ((c : Thread nD τ).loc main_arg3) :=
    Memref.read_access_unit_zero (Elt F) main_arg3 (funext fun a => Nat.zero_mul _) _ _
  rw [e0, e1, e2, e3]

end Cert.Ring.Reference

end
-- ==== Proof.Same.lean ====
/-
# The kernel is its own ideal text

The kernel printed for bits and the one printed for the extended reals are the same program, so what
is shown of the second over any values holds of the first.
-/
module

public import proofs.«01_k».proof.Proof.Gen.Kernel
public import proofs.«01_k».proof.Proof.Gen.KernelIdeal

@[expose] public section

noncomputable section

namespace Cert.Ring

open Idealize.ShloMosaic Idealize.ShloMosaic.TcCoe Idealize.SL.Sem

variable {F : FTy → Type} [FloatOps F]

/-- The bodies are the same. -/
theorem same_body : @Cert.Kernel.cc0_body F _ Cert.Kernel.Gen.facts = @Cert.KernelIdeal.cc0_body F _ Cert.KernelIdeal.Gen.facts := rfl

/-- So are the kernels' tables, -/
theorem same_table : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) =>
    show Cert.Kernel.cc0_body _ _ _ _ _ _ _ _ _ _ _ _ _ _ _ _ _ _ _ _ _ _ _ _
      = Cert.KernelIdeal.cc0_body _ _ _ _ _ _ _ _ _ _ _ _ _ _ _ _ _ _ _ _ _ _ _ _
    rw [same_body]
  | ⟨_ + 1, h⟩, _ => exact absurd h (Nat.not_lt.2 (Nat.le_add_left _ _))

/-- and the programs' tables. -/
theorem same_defs : Cert.Kernel.defs (F := F) = Cert.KernelIdeal.defs (F := F) :=
  congrArg (Pipeline.defs (Cert.KernelIdeal.pcfgs (F := F))) same_table

/-- A run of the one is a run of the other. -/
theorem same_run (m : (ℓ : Loc Cert.Kernel.nD Cert.Kernel.τ Cert.Kernel.sig) → Buf (Elt F) ℓ) (ρ : Dev Cert.Kernel.nD → PrngReg)
    (Q : PUnit × MemSt Cert.Kernel.nD Cert.Kernel.τ Cert.Kernel.sig (Elt F) → Prop)
    (h : θ_run (Cert.KernelIdeal.defs (F := F)) (onTc (τ := Cert.KernelIdeal.τ) (Cert.KernelIdeal.main (F := F))) ⟨m, fun _ => 0, ρ⟩ Q) :
    θ_run (Cert.Kernel.defs (F := F)) (onTc (τ := Cert.Kernel.τ) (Cert.Kernel.main (F := F))) ⟨m, fun _ => 0, ρ⟩ Q := by
  rw [same_defs]
  exact h

end Cert.Ring

end
-- ==== Proof.lean ====
/-
# The five claims

The kernel runs, in bits and over the extended reals, and so does the reference; the kernel over the
extended reals is the kernel's own text; its result on every device is the reference's.
-/
module

public import proofs.«01_k».proof.Proof.Gen.ReferenceIdeal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Final
public import proofs.«01_k».proof.Proof.Reference
public import proofs.«01_k».proof.Proof.Same
public import Idealize.ShloMosaic.Adequacy
public import Idealize.ShloMosaic.Init

@[expose] public section

noncomputable section

namespace Cert.Proof

open Idealize.ShloMosaic Idealize.ShloMosaic.TcCoe Idealize.SL.Sem

/-- The kernel over the extended reals ends with its arguments unchanged and every counter at zero. -/
theorem frame_ideal : Cert.quiescent_KernelIdeal := fun m ρ _ =>
  (θ_run Cert.KernelIdeal.defs _ _).mono (fun _ h => ⟨fun c => (h.1 c).2, h.2⟩) (Cert.Ring.run_main (F := Ideal) m ρ)

/-- The kernel on bits, the same text, ends so too. -/
theorem frame_kernel : Cert.quiescent_Kernel := fun m ρ _ => Cert.Ring.same_run m ρ _ <|
  (θ_run Cert.KernelIdeal.defs _ _).mono (fun _ h => ⟨fun c => (h.1 c).2, h.2⟩) (Cert.Ring.run_main (F := Bits) m ρ)

/-- The reference ends with its arguments unchanged and every counter at zero. -/
theorem frame_reference : Cert.quiescent_ReferenceIdeal := fun m ρ _ => Cert.ReferenceIdeal.Gen.frame m ρ

/-- From shards of the reference's arguments, the kernel leaves the reference's result on every device: the whole product
    times both scales. -/
theorem equal_results : Cert.algebraic_KernelIdeal_ReferenceIdeal := by
  intro m ρ m' ρ' _ hargs
  refine ⟨Cert.Ring.whole (m' (((0 : Dev Cert.ReferenceIdeal.nD) : Thread Cert.ReferenceIdeal.nD Cert.ReferenceIdeal.τ).loc Cert.ReferenceIdeal.main_arg0))
    (m' (((0 : Dev Cert.ReferenceIdeal.nD) : Thread Cert.ReferenceIdeal.nD Cert.ReferenceIdeal.τ).loc Cert.ReferenceIdeal.main_arg1))
    (m' (((0 : Dev Cert.ReferenceIdeal.nD) : Thread Cert.ReferenceIdeal.nD Cert.ReferenceIdeal.τ).loc Cert.ReferenceIdeal.main_arg2))
    (m' (((0 : Dev Cert.ReferenceIdeal.nD) : Thread Cert.ReferenceIdeal.nD Cert.ReferenceIdeal.τ).loc Cert.ReferenceIdeal.main_arg3)), ?_, ?_⟩
  · refine (θ_run Cert.KernelIdeal.defs _ _).mono (fun _ h c => ⟨(h.1 c).1.trans ?_, (h.1 c).2⟩) (Cert.Ring.run_main (F := Ideal) m ρ)
    unfold Cert.Ring.resAt
    rw [Cert.Ring.sxAt_eq, Cert.Ring.swAt_eq, (hargs c).2.2.1, (hargs c).2.2.2]
    exact Cert.Ring.outAt_eq _ _ _ _ (fun d => (Cert.Ring.xAt_eq m d).trans (hargs d).1)
      (fun d => (Cert.Ring.wAt_eq m d).trans (hargs d).2.1) c _ _
  · refine (θ_run Cert.ReferenceIdeal.defs _ _).mono (fun _ h => ⟨(h 0).1.trans ?_, (h 0).2⟩) (Cert.ReferenceIdeal.Value.run_blocks m' ρ')
    exact (Cert.Ring.Reference.final m' 0).trans (Cert.Ring.reference_value _ _ _ _)

/-- The certificate. -/
theorem claim : Cert.Claim := ⟨Cert.Kernel.Gen.facts, Cert.KernelIdeal.Gen.facts, Cert.ReferenceIdeal.Gen.facts,
  frame_kernel, frame_ideal, frame_reference, trivial, equal_results⟩

end Cert.Proof

end
